-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 2048]⟩ ⟨3, ![4, 512, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x2048 : Shape := ⟨3, ![1, 512, 2048]⟩
abbrev S512x512 : Shape := ⟨2, ![512, 512]⟩
abbrev S4x4x128x128 : Shape := ⟨4, ![4, 4, 128, 128]⟩
abbrev S4x3 : Shape := ⟨2, ![4, 3]⟩
abbrev S3x4 : Shape := ⟨2, ![3, 4]⟩
abbrev S_ : Shape := ⟨0, ![]⟩
abbrev S1x1 : Shape := ⟨2, ![1, 1]⟩
abbrev S1x1x128x128 : Shape := ⟨4, ![1, 1, 128, 128]⟩
abbrev S128x128 : Shape := ⟨2, ![128, 128]⟩
abbrev S1x128x128 : Shape := ⟨3, ![1, 128, 128]⟩

abbrev nBuf : Space → Nat
  | .hbm => 2
  | .vmem => 3
  | .smem => 0
  | _ => 0

abbrev bufTy : (tb : Table) → Fin (tcTables nBuf tb) → BufTy
  | .hbm, ⟨0, _⟩ => ⟨S1x512x2048, .f32⟩
  | .hbm, ⟨1, _⟩ => ⟨S512x512, .f32⟩
  | .local _ .vmem, ⟨0, _⟩ => ⟨S1x512x2048, .f32⟩
  | .local _ .vmem, ⟨1, _⟩ => ⟨S512x512, .f32⟩
  | .local _ .vmem, ⟨2, _⟩ => ⟨S4x4x128x128, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v48 : BitVec 32 := Scalar.muli v2 c16_i32_27
  let v49 : BitVec 32 := Scalar.addi c0_i32_28 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v22 : BitVec 32 := Scalar.addi v5 c4_i32_9
  let c1_i32_10 : BitVec 32 := 1#32
  let v23 : BitVec 32 := Scalar.subi v22 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c4_i32_29 : BitVec 32 := 4#32
  let v50 : BitVec 32 := Scalar.muli v33 c4_i32_29
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v52 : BitVec 32 := Scalar.muli v8 c1_i32_30
  let v53 : BitVec 32 := Scalar.addi v51 v52
  v53.toNat
def k0_dev2 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v54 : BitVec 32 := Scalar.muli v2 c16_i32_32
  let v55 : BitVec 32 := Scalar.addi c0_i32_33 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_34 : BitVec 32 := 4#32
  let v56 : BitVec 32 := Scalar.muli v44 c4_i32_34
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v58 : BitVec 32 := Scalar.muli v8 c1_i32_35
  let v59 : BitVec 32 := Scalar.addi v57 v58
  v59.toNat
def k0_dev3 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v60 : BitVec 32 := Scalar.muli v2 c16_i32_37
  let v61 : BitVec 32 := Scalar.addi c0_i32_38 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v62 : BitVec 32 := Scalar.muli v5 c4_i32_39
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_40 : BitVec 32 := 1#32
  let v64 : BitVec 32 := Scalar.muli v21 c1_i32_40
  let v65 : BitVec 32 := Scalar.addi v63 v64
  v65.toNat
def k0_dev4 (d0 : Dev nD) : Nat :=
  let c0_i32_43 : BitVec 32 := 0#32
  let c1_i32_24 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.subi c1_i32_24 v2
  let c16_i32_42 : BitVec 32 := 16#32
  let v66 : BitVec 32 := Scalar.muli v45 c16_i32_42
  let v67 : BitVec 32 := Scalar.addi c0_i32_43 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v68 : BitVec 32 := Scalar.muli v5 c4_i32_44
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v70 : BitVec 32 := Scalar.muli v8 c1_i32_45
  let v71 : BitVec 32 := Scalar.addi v69 v70
  v71.toNat
def k0_dev5 (d0 : Dev nD) : Nat :=
  let c0_i32_48 : BitVec 32 := 0#32
  let c1_i32_25 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v46 : BitVec 32 := Scalar.subi c1_i32_25 v2
  let c16_i32_47 : BitVec 32 := 16#32
  let v72 : BitVec 32 := Scalar.muli v46 c16_i32_47
  let v73 : BitVec 32 := Scalar.addi c0_i32_48 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v74 : BitVec 32 := Scalar.muli v5 c4_i32_49
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_50 : BitVec 32 := 1#32
  let v76 : BitVec 32 := Scalar.muli v21 c1_i32_50
  let v77 : BitVec 32 := Scalar.addi v75 v76
  v77.toNat
def k0_off1 (d0 : Dev nD) : Fin 3 → Nat :=
  let c0_i32_69 : BitVec 32 := 0#32
  let c0_i32_82 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v91 : BitVec 32 := Scalar.addi v5 c4_i32_58
  let c1_i32_59 : BitVec 32 := 1#32
  let v92 : BitVec 32 := Scalar.subi v91 c1_i32_59
  let c4_i32_60 : BitVec 32 := 4#32
  let c0_i32_61 : BitVec 32 := 0#32
  let v93 : BitVec 1 := Scalar.cmpi .eq c4_i32_60 c0_i32_61
  let c1_i32_62 : BitVec 32 := 1#32
  let v94 : BitVec 32 := Scalar.select v93 c1_i32_62 c4_i32_60
  let v95 : BitVec 32 := Scalar.remsi v92 v94
  let c0_i32_64 : BitVec 32 := 0#32
  let v97 : BitVec 1 := Scalar.cmpi .slt v95 c0_i32_64
  let c0_i32_65 : BitVec 32 := 0#32
  let v98 : BitVec 1 := Scalar.cmpi .slt v94 c0_i32_65
  let v99 : BitVec 1 := Scalar.xori v97 v98
  let c0_i32_63 : BitVec 32 := 0#32
  let v96 : BitVec 1 := Scalar.cmpi .ne v95 c0_i32_63
  let v100 : BitVec 1 := Scalar.andi v99 v96
  let v101 : BitVec 32 := Scalar.addi v95 v94
  let v102 : BitVec 32 := Scalar.select v100 v101 v95
  let c512_i32 : BitVec 32 := 512#32
  let v103 : BitVec 32 := Scalar.muli v102 c512_i32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v104 : BitVec 32 := Scalar.addi v103 v90
  ![0, 0, v104.toNat]
def k0_dev6 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v111 : BitVec 32 := Scalar.muli v2 c16_i32_76
  let v112 : BitVec 32 := Scalar.addi c0_i32_77 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_78 : BitVec 32 := 4#32
  let v113 : BitVec 32 := Scalar.muli v44 c4_i32_78
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v115 : BitVec 32 := Scalar.muli v8 c1_i32_79
  let v116 : BitVec 32 := Scalar.addi v114 v115
  v116.toNat
def k0_off2 (d0 : Dev nD) : Fin 3 → Nat :=
  let c0_i32_83 : BitVec 32 := 0#32
  let c128_i32_96 : BitVec 32 := 128#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v91 : BitVec 32 := Scalar.addi v5 c4_i32_58
  let c1_i32_59 : BitVec 32 := 1#32
  let v92 : BitVec 32 := Scalar.subi v91 c1_i32_59
  let c4_i32_60 : BitVec 32 := 4#32
  let c0_i32_61 : BitVec 32 := 0#32
  let v93 : BitVec 1 := Scalar.cmpi .eq c4_i32_60 c0_i32_61
  let c1_i32_62 : BitVec 32 := 1#32
  let v94 : BitVec 32 := Scalar.select v93 c1_i32_62 c4_i32_60
  let v95 : BitVec 32 := Scalar.remsi v92 v94
  let c0_i32_64 : BitVec 32 := 0#32
  let v97 : BitVec 1 := Scalar.cmpi .slt v95 c0_i32_64
  let c0_i32_65 : BitVec 32 := 0#32
  let v98 : BitVec 1 := Scalar.cmpi .slt v94 c0_i32_65
  let v99 : BitVec 1 := Scalar.xori v97 v98
  let c0_i32_63 : BitVec 32 := 0#32
  let v96 : BitVec 1 := Scalar.cmpi .ne v95 c0_i32_63
  let v100 : BitVec 1 := Scalar.andi v99 v96
  let v101 : BitVec 32 := Scalar.addi v95 v94
  let v102 : BitVec 32 := Scalar.select v100 v101 v95
  let c512_i32_66 : BitVec 32 := 512#32
  let v105 : BitVec 32 := Scalar.muli v102 c512_i32_66
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v106 : BitVec 32 := Scalar.addi v105 v90
  ![0, 128, v106.toNat]
def k0_dev7 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v125 : BitVec 32 := Scalar.muli v2 c16_i32_90
  let v126 : BitVec 32 := Scalar.addi c0_i32_91 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_92 : BitVec 32 := 4#32
  let v127 : BitVec 32 := Scalar.muli v44 c4_i32_92
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v129 : BitVec 32 := Scalar.muli v8 c1_i32_93
  let v130 : BitVec 32 := Scalar.addi v128 v129
  v130.toNat
def k0_off3 (d0 : Dev nD) : Fin 3 → Nat :=
  let c0_i32_97 : BitVec 32 := 0#32
  let c256_i32 : BitVec 32 := 256#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v91 : BitVec 32 := Scalar.addi v5 c4_i32_58
  let c1_i32_59 : BitVec 32 := 1#32
  let v92 : BitVec 32 := Scalar.subi v91 c1_i32_59
  let c4_i32_60 : BitVec 32 := 4#32
  let c0_i32_61 : BitVec 32 := 0#32
  let v93 : BitVec 1 := Scalar.cmpi .eq c4_i32_60 c0_i32_61
  let c1_i32_62 : BitVec 32 := 1#32
  let v94 : BitVec 32 := Scalar.select v93 c1_i32_62 c4_i32_60
  let v95 : BitVec 32 := Scalar.remsi v92 v94
  let c0_i32_64 : BitVec 32 := 0#32
  let v97 : BitVec 1 := Scalar.cmpi .slt v95 c0_i32_64
  let c0_i32_65 : BitVec 32 := 0#32
  let v98 : BitVec 1 := Scalar.cmpi .slt v94 c0_i32_65
  let v99 : BitVec 1 := Scalar.xori v97 v98
  let c0_i32_63 : BitVec 32 := 0#32
  let v96 : BitVec 1 := Scalar.cmpi .ne v95 c0_i32_63
  let v100 : BitVec 1 := Scalar.andi v99 v96
  let v101 : BitVec 32 := Scalar.addi v95 v94
  let v102 : BitVec 32 := Scalar.select v100 v101 v95
  let c512_i32_67 : BitVec 32 := 512#32
  let v107 : BitVec 32 := Scalar.muli v102 c512_i32_67
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v108 : BitVec 32 := Scalar.addi v107 v90
  ![0, 256, v108.toNat]
def k0_dev8 (d0 : Dev nD) : Nat :=
  let c0_i32_105 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_104 : BitVec 32 := 16#32
  let v139 : BitVec 32 := Scalar.muli v2 c16_i32_104
  let v140 : BitVec 32 := Scalar.addi c0_i32_105 v139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_106 : BitVec 32 := 4#32
  let v141 : BitVec 32 := Scalar.muli v44 c4_i32_106
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v143 : BitVec 32 := Scalar.muli v8 c1_i32_107
  let v144 : BitVec 32 := Scalar.addi v142 v143
  v144.toNat
def k0_off4 (d0 : Dev nD) : Fin 3 → Nat :=
  let c0_i32_110 : BitVec 32 := 0#32
  let c384_i32 : BitVec 32 := 384#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v91 : BitVec 32 := Scalar.addi v5 c4_i32_58
  let c1_i32_59 : BitVec 32 := 1#32
  let v92 : BitVec 32 := Scalar.subi v91 c1_i32_59
  let c4_i32_60 : BitVec 32 := 4#32
  let c0_i32_61 : BitVec 32 := 0#32
  let v93 : BitVec 1 := Scalar.cmpi .eq c4_i32_60 c0_i32_61
  let c1_i32_62 : BitVec 32 := 1#32
  let v94 : BitVec 32 := Scalar.select v93 c1_i32_62 c4_i32_60
  let v95 : BitVec 32 := Scalar.remsi v92 v94
  let c0_i32_64 : BitVec 32 := 0#32
  let v97 : BitVec 1 := Scalar.cmpi .slt v95 c0_i32_64
  let c0_i32_65 : BitVec 32 := 0#32
  let v98 : BitVec 1 := Scalar.cmpi .slt v94 c0_i32_65
  let v99 : BitVec 1 := Scalar.xori v97 v98
  let c0_i32_63 : BitVec 32 := 0#32
  let v96 : BitVec 1 := Scalar.cmpi .ne v95 c0_i32_63
  let v100 : BitVec 1 := Scalar.andi v99 v96
  let v101 : BitVec 32 := Scalar.addi v95 v94
  let v102 : BitVec 32 := Scalar.select v100 v101 v95
  let c512_i32_68 : BitVec 32 := 512#32
  let v109 : BitVec 32 := Scalar.muli v102 c512_i32_68
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v110 : BitVec 32 := Scalar.addi v109 v90
  ![0, 384, v110.toNat]
def k0_dev9 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v153 : BitVec 32 := Scalar.muli v2 c16_i32_116
  let v154 : BitVec 32 := Scalar.addi c0_i32_117 v153
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_118 : BitVec 32 := 4#32
  let v155 : BitVec 32 := Scalar.muli v44 c4_i32_118
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v157 : BitVec 32 := Scalar.muli v8 c1_i32_119
  let v158 : BitVec 32 := Scalar.addi v156 v157
  v158.toNat
def k0_off5 (d0 : Dev nD) (c0_i32_122 : BitVec 32) : Fin 3 → Nat :=
  let c0 : Index := 0#32
  let c0_145 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v167 : BitVec 32 := Scalar.addi v5 c8_i32
  let v168 : BitVec 32 := Scalar.subi v167 c0_i32_122
  let c2_i32_123 : BitVec 32 := 2#32
  let v169 : BitVec 32 := Scalar.subi v168 c2_i32_123
  let c4_i32_124 : BitVec 32 := 4#32
  let c0_i32_125 : BitVec 32 := 0#32
  let v170 : BitVec 1 := Scalar.cmpi .eq c4_i32_124 c0_i32_125
  let c1_i32_126 : BitVec 32 := 1#32
  let v171 : BitVec 32 := Scalar.select v170 c1_i32_126 c4_i32_124
  let v172 : BitVec 32 := Scalar.remsi v169 v171
  let c0_i32_128 : BitVec 32 := 0#32
  let v174 : BitVec 1 := Scalar.cmpi .slt v172 c0_i32_128
  let c0_i32_129 : BitVec 32 := 0#32
  let v175 : BitVec 1 := Scalar.cmpi .slt v171 c0_i32_129
  let v176 : BitVec 1 := Scalar.xori v174 v175
  let c0_i32_127 : BitVec 32 := 0#32
  let v173 : BitVec 1 := Scalar.cmpi .ne v172 c0_i32_127
  let v177 : BitVec 1 := Scalar.andi v176 v173
  let v178 : BitVec 32 := Scalar.addi v172 v171
  let v179 : BitVec 32 := Scalar.select v177 v178 v172
  let c512_i32_144 : BitVec 32 := 512#32
  let v192 : BitVec 32 := Scalar.muli v179 c512_i32_144
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v193 : BitVec 32 := Scalar.addi v192 v90
  let v194 : Index := Scalar.indexCast v193
  ![0, 0, v194.toNat]
def k0_dev10 (d0 : Dev nD) : Nat :=
  let c0_i32_162 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_161 : BitVec 32 := 16#32
  let v203 : BitVec 32 := Scalar.muli v2 c16_i32_161
  let v204 : BitVec 32 := Scalar.addi c0_i32_162 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_163 : BitVec 32 := 4#32
  let v205 : BitVec 32 := Scalar.muli v44 c4_i32_163
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v207 : BitVec 32 := Scalar.muli v8 c1_i32_164
  let v208 : BitVec 32 := Scalar.addi v206 v207
  v208.toNat
def k0_off6 (d0 : Dev nD) (c0_i32_122 : BitVec 32) : Fin 3 → Nat :=
  let c0_184 : Index := 0#32
  let c128 : Index := 128#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v167 : BitVec 32 := Scalar.addi v5 c8_i32
  let v168 : BitVec 32 := Scalar.subi v167 c0_i32_122
  let c2_i32_123 : BitVec 32 := 2#32
  let v169 : BitVec 32 := Scalar.subi v168 c2_i32_123
  let c4_i32_124 : BitVec 32 := 4#32
  let c0_i32_125 : BitVec 32 := 0#32
  let v170 : BitVec 1 := Scalar.cmpi .eq c4_i32_124 c0_i32_125
  let c1_i32_126 : BitVec 32 := 1#32
  let v171 : BitVec 32 := Scalar.select v170 c1_i32_126 c4_i32_124
  let v172 : BitVec 32 := Scalar.remsi v169 v171
  let c0_i32_128 : BitVec 32 := 0#32
  let v174 : BitVec 1 := Scalar.cmpi .slt v172 c0_i32_128
  let c0_i32_129 : BitVec 32 := 0#32
  let v175 : BitVec 1 := Scalar.cmpi .slt v171 c0_i32_129
  let v176 : BitVec 1 := Scalar.xori v174 v175
  let c0_i32_127 : BitVec 32 := 0#32
  let v173 : BitVec 1 := Scalar.cmpi .ne v172 c0_i32_127
  let v177 : BitVec 1 := Scalar.andi v176 v173
  let v178 : BitVec 32 := Scalar.addi v172 v171
  let v179 : BitVec 32 := Scalar.select v177 v178 v172
  let c512_i32_183 : BitVec 32 := 512#32
  let v229 : BitVec 32 := Scalar.muli v179 c512_i32_183
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v230 : BitVec 32 := Scalar.addi v229 v90
  let v231 : Index := Scalar.indexCast v230
  ![0, 128, v231.toNat]
def k0_dev11 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v240 : BitVec 32 := Scalar.muli v2 c16_i32_201
  let v241 : BitVec 32 := Scalar.addi c0_i32_202 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_203 : BitVec 32 := 4#32
  let v242 : BitVec 32 := Scalar.muli v44 c4_i32_203
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v244 : BitVec 32 := Scalar.muli v8 c1_i32_204
  let v245 : BitVec 32 := Scalar.addi v243 v244
  v245.toNat
def k0_off7 (d0 : Dev nD) (c0_i32_122 : BitVec 32) : Fin 3 → Nat :=
  let c0_224 : Index := 0#32
  let c256 : Index := 256#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v167 : BitVec 32 := Scalar.addi v5 c8_i32
  let v168 : BitVec 32 := Scalar.subi v167 c0_i32_122
  let c2_i32_123 : BitVec 32 := 2#32
  let v169 : BitVec 32 := Scalar.subi v168 c2_i32_123
  let c4_i32_124 : BitVec 32 := 4#32
  let c0_i32_125 : BitVec 32 := 0#32
  let v170 : BitVec 1 := Scalar.cmpi .eq c4_i32_124 c0_i32_125
  let c1_i32_126 : BitVec 32 := 1#32
  let v171 : BitVec 32 := Scalar.select v170 c1_i32_126 c4_i32_124
  let v172 : BitVec 32 := Scalar.remsi v169 v171
  let c0_i32_128 : BitVec 32 := 0#32
  let v174 : BitVec 1 := Scalar.cmpi .slt v172 c0_i32_128
  let c0_i32_129 : BitVec 32 := 0#32
  let v175 : BitVec 1 := Scalar.cmpi .slt v171 c0_i32_129
  let v176 : BitVec 1 := Scalar.xori v174 v175
  let c0_i32_127 : BitVec 32 := 0#32
  let v173 : BitVec 1 := Scalar.cmpi .ne v172 c0_i32_127
  let v177 : BitVec 1 := Scalar.andi v176 v173
  let v178 : BitVec 32 := Scalar.addi v172 v171
  let v179 : BitVec 32 := Scalar.select v177 v178 v172
  let c512_i32_223 : BitVec 32 := 512#32
  let v266 : BitVec 32 := Scalar.muli v179 c512_i32_223
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v267 : BitVec 32 := Scalar.addi v266 v90
  let v268 : Index := Scalar.indexCast v267
  ![0, 256, v268.toNat]
def k0_dev12 (d0 : Dev nD) : Nat :=
  let c0_i32_241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_240 : BitVec 32 := 16#32
  let v277 : BitVec 32 := Scalar.muli v2 c16_i32_240
  let v278 : BitVec 32 := Scalar.addi c0_i32_241 v277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_242 : BitVec 32 := 4#32
  let v279 : BitVec 32 := Scalar.muli v44 c4_i32_242
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v281 : BitVec 32 := Scalar.muli v8 c1_i32_243
  let v282 : BitVec 32 := Scalar.addi v280 v281
  v282.toNat
def k0_off8 (d0 : Dev nD) (c0_i32_122 : BitVec 32) : Fin 3 → Nat :=
  let c0_263 : Index := 0#32
  let c384 : Index := 384#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v167 : BitVec 32 := Scalar.addi v5 c8_i32
  let v168 : BitVec 32 := Scalar.subi v167 c0_i32_122
  let c2_i32_123 : BitVec 32 := 2#32
  let v169 : BitVec 32 := Scalar.subi v168 c2_i32_123
  let c4_i32_124 : BitVec 32 := 4#32
  let c0_i32_125 : BitVec 32 := 0#32
  let v170 : BitVec 1 := Scalar.cmpi .eq c4_i32_124 c0_i32_125
  let c1_i32_126 : BitVec 32 := 1#32
  let v171 : BitVec 32 := Scalar.select v170 c1_i32_126 c4_i32_124
  let v172 : BitVec 32 := Scalar.remsi v169 v171
  let c0_i32_128 : BitVec 32 := 0#32
  let v174 : BitVec 1 := Scalar.cmpi .slt v172 c0_i32_128
  let c0_i32_129 : BitVec 32 := 0#32
  let v175 : BitVec 1 := Scalar.cmpi .slt v171 c0_i32_129
  let v176 : BitVec 1 := Scalar.xori v174 v175
  let c0_i32_127 : BitVec 32 := 0#32
  let v173 : BitVec 1 := Scalar.cmpi .ne v172 c0_i32_127
  let v177 : BitVec 1 := Scalar.andi v176 v173
  let v178 : BitVec 32 := Scalar.addi v172 v171
  let v179 : BitVec 32 := Scalar.select v177 v178 v172
  let c512_i32_262 : BitVec 32 := 512#32
  let v303 : BitVec 32 := Scalar.muli v179 c512_i32_262
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v304 : BitVec 32 := Scalar.addi v303 v90
  let v305 : Index := Scalar.indexCast v304
  ![0, 384, v305.toNat]
def k0_dev13 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v314 : BitVec 32 := Scalar.muli v2 c16_i32_279
  let v315 : BitVec 32 := Scalar.addi c0_i32_280 v314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_281 : BitVec 32 := 4#32
  let v316 : BitVec 32 := Scalar.muli v44 c4_i32_281
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v318 : BitVec 32 := Scalar.muli v8 c1_i32_282
  let v319 : BitVec 32 := Scalar.addi v317 v318
  v319.toNat
def k0_dev14 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v364 : BitVec 32 := Scalar.muli v2 c16_i32_331
  let v365 : BitVec 32 := Scalar.addi c0_i32_332 v364
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_333 : BitVec 32 := 4#32
  let v366 : BitVec 32 := Scalar.muli v44 c4_i32_333
  let v367 : BitVec 32 := Scalar.addi v365 v366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v368 : BitVec 32 := Scalar.muli v8 c1_i32_334
  let v369 : BitVec 32 := Scalar.addi v367 v368
  v369.toNat
def k0_dev15 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v401 : BitVec 32 := Scalar.muli v2 c16_i32_374
  let v402 : BitVec 32 := Scalar.addi c0_i32_375 v401
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_376 : BitVec 32 := 4#32
  let v403 : BitVec 32 := Scalar.muli v44 c4_i32_376
  let v404 : BitVec 32 := Scalar.addi v402 v403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v405 : BitVec 32 := Scalar.muli v8 c1_i32_377
  let v406 : BitVec 32 := Scalar.addi v404 v405
  v406.toNat
def k0_dev16 (d0 : Dev nD) : Nat :=
  let c0_i32_418 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_417 : BitVec 32 := 16#32
  let v438 : BitVec 32 := Scalar.muli v2 c16_i32_417
  let v439 : BitVec 32 := Scalar.addi c0_i32_418 v438
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_419 : BitVec 32 := 4#32
  let v440 : BitVec 32 := Scalar.muli v44 c4_i32_419
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_420 : BitVec 32 := 1#32
  let v442 : BitVec 32 := Scalar.muli v8 c1_i32_420
  let v443 : BitVec 32 := Scalar.addi v441 v442
  v443.toNat
def k0_dev17 (d0 : Dev nD) : Nat :=
  let c0_i32_461 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_460 : BitVec 32 := 16#32
  let v475 : BitVec 32 := Scalar.muli v2 c16_i32_460
  let v476 : BitVec 32 := Scalar.addi c0_i32_461 v475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v34 : BitVec 32 := Scalar.addi v5 c1_i32_17
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c4_i32_462 : BitVec 32 := 4#32
  let v477 : BitVec 32 := Scalar.muli v44 c4_i32_462
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v479 : BitVec 32 := Scalar.muli v8 c1_i32_463
  let v480 : BitVec 32 := Scalar.addi v478 v479
  v480.toNat
def k0_off9 (d0 : Dev nD) : Fin 2 → Nat :=
  let c0_500 : Index := 0#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v522 : Index := Scalar.indexCast v90
  ![0, v522.toNat]
def k0_off10 (d0 : Dev nD) : Fin 2 → Nat :=
  let c0_i32_509 : BitVec 32 := 0#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  ![0, v90.toNat]
def k0_dev18 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v524 : BitVec 32 := Scalar.muli v2 c16_i32_505
  let v525 : BitVec 32 := Scalar.addi c0_i32_506 v524
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v526 : BitVec 32 := Scalar.muli v5 c4_i32_507
  let v527 : BitVec 32 := Scalar.addi v525 v526
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_508 : BitVec 32 := 1#32
  let v528 : BitVec 32 := Scalar.muli v21 c1_i32_508
  let v529 : BitVec 32 := Scalar.addi v527 v528
  v529.toNat
def k0_dev19 (d0 : Dev nD) : Nat :=
  let c0_i32_516 : BitVec 32 := 0#32
  let c1_i32_24 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.subi c1_i32_24 v2
  let c16_i32_515 : BitVec 32 := 16#32
  let v536 : BitVec 32 := Scalar.muli v45 c16_i32_515
  let v537 : BitVec 32 := Scalar.addi c0_i32_516 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_517 : BitVec 32 := 4#32
  let v538 : BitVec 32 := Scalar.muli v5 c4_i32_517
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_518 : BitVec 32 := 1#32
  let v540 : BitVec 32 := Scalar.muli v8 c1_i32_518
  let v541 : BitVec 32 := Scalar.addi v539 v540
  v541.toNat
def k0_dev20 (d0 : Dev nD) : Nat :=
  let c0_i32_526 : BitVec 32 := 0#32
  let c1_i32_25 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v46 : BitVec 32 := Scalar.subi c1_i32_25 v2
  let c16_i32_525 : BitVec 32 := 16#32
  let v548 : BitVec 32 := Scalar.muli v46 c16_i32_525
  let v549 : BitVec 32 := Scalar.addi c0_i32_526 v548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_527 : BitVec 32 := 4#32
  let v550 : BitVec 32 := Scalar.muli v5 c4_i32_527
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_528 : BitVec 32 := 1#32
  let v552 : BitVec 32 := Scalar.muli v21 c1_i32_528
  let v553 : BitVec 32 := Scalar.addi v551 v552
  v553.toNat
def k0_off11 (d0 : Dev nD) : Fin 2 → Nat :=
  let c128_554 : Index := 128#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v580 : Index := Scalar.indexCast v90
  ![128, v580.toNat]
def k0_off12 (d0 : Dev nD) : Fin 2 → Nat :=
  let c128_i32_563 : BitVec 32 := 128#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  ![128, v90.toNat]
def k0_dev21 (d0 : Dev nD) : Nat :=
  let c0_i32_560 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_559 : BitVec 32 := 16#32
  let v582 : BitVec 32 := Scalar.muli v2 c16_i32_559
  let v583 : BitVec 32 := Scalar.addi c0_i32_560 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_561 : BitVec 32 := 4#32
  let v584 : BitVec 32 := Scalar.muli v5 c4_i32_561
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_562 : BitVec 32 := 1#32
  let v586 : BitVec 32 := Scalar.muli v21 c1_i32_562
  let v587 : BitVec 32 := Scalar.addi v585 v586
  v587.toNat
def k0_dev22 (d0 : Dev nD) : Nat :=
  let c0_i32_570 : BitVec 32 := 0#32
  let c1_i32_24 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.subi c1_i32_24 v2
  let c16_i32_569 : BitVec 32 := 16#32
  let v594 : BitVec 32 := Scalar.muli v45 c16_i32_569
  let v595 : BitVec 32 := Scalar.addi c0_i32_570 v594
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_571 : BitVec 32 := 4#32
  let v596 : BitVec 32 := Scalar.muli v5 c4_i32_571
  let v597 : BitVec 32 := Scalar.addi v595 v596
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_572 : BitVec 32 := 1#32
  let v598 : BitVec 32 := Scalar.muli v8 c1_i32_572
  let v599 : BitVec 32 := Scalar.addi v597 v598
  v599.toNat
def k0_dev23 (d0 : Dev nD) : Nat :=
  let c0_i32_580 : BitVec 32 := 0#32
  let c1_i32_25 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v46 : BitVec 32 := Scalar.subi c1_i32_25 v2
  let c16_i32_579 : BitVec 32 := 16#32
  let v606 : BitVec 32 := Scalar.muli v46 c16_i32_579
  let v607 : BitVec 32 := Scalar.addi c0_i32_580 v606
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_581 : BitVec 32 := 4#32
  let v608 : BitVec 32 := Scalar.muli v5 c4_i32_581
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_582 : BitVec 32 := 1#32
  let v610 : BitVec 32 := Scalar.muli v21 c1_i32_582
  let v611 : BitVec 32 := Scalar.addi v609 v610
  v611.toNat
def k0_off13 (d0 : Dev nD) : Fin 2 → Nat :=
  let c256_608 : Index := 256#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v638 : Index := Scalar.indexCast v90
  ![256, v638.toNat]
def k0_off14 (d0 : Dev nD) : Fin 2 → Nat :=
  let c256_i32_617 : BitVec 32 := 256#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  ![256, v90.toNat]
def k0_dev24 (d0 : Dev nD) : Nat :=
  let c0_i32_614 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_613 : BitVec 32 := 16#32
  let v640 : BitVec 32 := Scalar.muli v2 c16_i32_613
  let v641 : BitVec 32 := Scalar.addi c0_i32_614 v640
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_615 : BitVec 32 := 4#32
  let v642 : BitVec 32 := Scalar.muli v5 c4_i32_615
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_616 : BitVec 32 := 1#32
  let v644 : BitVec 32 := Scalar.muli v21 c1_i32_616
  let v645 : BitVec 32 := Scalar.addi v643 v644
  v645.toNat
def k0_dev25 (d0 : Dev nD) : Nat :=
  let c0_i32_624 : BitVec 32 := 0#32
  let c1_i32_24 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.subi c1_i32_24 v2
  let c16_i32_623 : BitVec 32 := 16#32
  let v652 : BitVec 32 := Scalar.muli v45 c16_i32_623
  let v653 : BitVec 32 := Scalar.addi c0_i32_624 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_625 : BitVec 32 := 4#32
  let v654 : BitVec 32 := Scalar.muli v5 c4_i32_625
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v656 : BitVec 32 := Scalar.muli v8 c1_i32_626
  let v657 : BitVec 32 := Scalar.addi v655 v656
  v657.toNat
def k0_dev26 (d0 : Dev nD) : Nat :=
  let c0_i32_634 : BitVec 32 := 0#32
  let c1_i32_25 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v46 : BitVec 32 := Scalar.subi c1_i32_25 v2
  let c16_i32_633 : BitVec 32 := 16#32
  let v664 : BitVec 32 := Scalar.muli v46 c16_i32_633
  let v665 : BitVec 32 := Scalar.addi c0_i32_634 v664
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_635 : BitVec 32 := 4#32
  let v666 : BitVec 32 := Scalar.muli v5 c4_i32_635
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_636 : BitVec 32 := 1#32
  let v668 : BitVec 32 := Scalar.muli v21 c1_i32_636
  let v669 : BitVec 32 := Scalar.addi v667 v668
  v669.toNat
def k0_off15 (d0 : Dev nD) : Fin 2 → Nat :=
  let c384_662 : Index := 384#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  let v696 : Index := Scalar.indexCast v90
  ![384, v696.toNat]
def k0_off16 (d0 : Dev nD) : Fin 2 → Nat :=
  let c384_i32_671 : BitVec 32 := 384#32
  let c2_i32_51 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : BitVec 32 := Scalar.muli c2_i32_51 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let c0_i32_53 : BitVec 32 := 0#32
  let v79 : BitVec 1 := Scalar.cmpi .eq c2_i32_52 c0_i32_53
  let c1_i32_54 : BitVec 32 := 1#32
  let v80 : BitVec 32 := Scalar.select v79 c1_i32_54 c2_i32_52
  let v81 : BitVec 32 := Scalar.remsi v8 v80
  let c0_i32_56 : BitVec 32 := 0#32
  let v83 : BitVec 1 := Scalar.cmpi .slt v81 c0_i32_56
  let c0_i32_57 : BitVec 32 := 0#32
  let v84 : BitVec 1 := Scalar.cmpi .slt v80 c0_i32_57
  let v85 : BitVec 1 := Scalar.xori v83 v84
  let c0_i32_55 : BitVec 32 := 0#32
  let v82 : BitVec 1 := Scalar.cmpi .ne v81 c0_i32_55
  let v86 : BitVec 1 := Scalar.andi v85 v82
  let v87 : BitVec 32 := Scalar.addi v81 v80
  let v88 : BitVec 32 := Scalar.select v86 v87 v81
  let v89 : BitVec 32 := Scalar.addi v78 v88
  let c128_i32 : BitVec 32 := 128#32
  let v90 : BitVec 32 := Scalar.muli v89 c128_i32
  ![384, v90.toNat]
def k0_dev27 (d0 : Dev nD) : Nat :=
  let c0_i32_668 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_667 : BitVec 32 := 16#32
  let v698 : BitVec 32 := Scalar.muli v2 c16_i32_667
  let v699 : BitVec 32 := Scalar.addi c0_i32_668 v698
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_669 : BitVec 32 := 4#32
  let v700 : BitVec 32 := Scalar.muli v5 c4_i32_669
  let v701 : BitVec 32 := Scalar.addi v699 v700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_670 : BitVec 32 := 1#32
  let v702 : BitVec 32 := Scalar.muli v21 c1_i32_670
  let v703 : BitVec 32 := Scalar.addi v701 v702
  v703.toNat
def k0_dev28 (d0 : Dev nD) : Nat :=
  let c0_i32_678 : BitVec 32 := 0#32
  let c1_i32_24 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.subi c1_i32_24 v2
  let c16_i32_677 : BitVec 32 := 16#32
  let v710 : BitVec 32 := Scalar.muli v45 c16_i32_677
  let v711 : BitVec 32 := Scalar.addi c0_i32_678 v710
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_679 : BitVec 32 := 4#32
  let v712 : BitVec 32 := Scalar.muli v5 c4_i32_679
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v714 : BitVec 32 := Scalar.muli v8 c1_i32_680
  let v715 : BitVec 32 := Scalar.addi v713 v714
  v715.toNat
def k0_dev29 (d0 : Dev nD) : Nat :=
  let c0_i32_688 : BitVec 32 := 0#32
  let c1_i32_25 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v46 : BitVec 32 := Scalar.subi c1_i32_25 v2
  let c16_i32_687 : BitVec 32 := 16#32
  let v722 : BitVec 32 := Scalar.muli v46 c16_i32_687
  let v723 : BitVec 32 := Scalar.addi c0_i32_688 v722
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_689 : BitVec 32 := 4#32
  let v724 : BitVec 32 := Scalar.muli v5 c4_i32_689
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c2_i32_7 : BitVec 32 := 2#32
  let v19 : BitVec 32 := Scalar.muli v18 c2_i32_7
  let v20 : BitVec 32 := Scalar.subi v8 v19
  let c1_i32_8 : BitVec 32 := 1#32
  let v21 : BitVec 32 := Scalar.addi v20 c1_i32_8
  let c1_i32_690 : BitVec 32 := 1#32
  let v726 : BitVec 32 := Scalar.muli v21 c1_i32_690
  let v727 : BitVec 32 := Scalar.addi v725 v726
  v727.toNat
abbrev stage0_0 : Fin 1 → Memref sig .tc .vmem S1x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x512x2048 : Shape := ⟨3, ![4, 512, 2048]⟩
abbrev S_ : Shape := ⟨0, ![]⟩
abbrev S512x2048 : Shape := ⟨2, ![512, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S_, .f32⟩
  | .hbm, ⟨2, _⟩ => ⟨S512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
The geometry of the reduce-scatter and all-gather: the devices each device talks to, the blocks of the buffers that
travel, the semaphores they travel on, and the values they carry.

A device has coordinates x, y, z with number 16x + 4y + z. It works on the column block `q = 2x + z % 2` of its
chunk: four row blocks `u` of it travel the ring along y, and the finished blocks are then copied to the three
devices of the same (y, z / 2) group.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the kernel's, whose duties are named by five numbers -/

/-- The resource algebra of the kernel's own rounds. -/
abbrev UB : Type := URounds (GSem nD τ sig) (Fin 5)
/-- The resource algebra of the whole launch: the pipeline's and the kernel's. -/
abbrev UU : Type := UR sig nD τ × UB

local notation "𝕄" => MT nD τ sig Unit (Elt F) ℕ UU ℕ

/-- Where the pipeline's algebra sits in the model. -/
abbrev EP : Emb (UR sig nD τ) (MT nD τ sig Unit (Elt F) ℕ UU ℕ) := embL
/-- Where the kernel's algebra sits in the model. -/
abbrev ER : Emb UB (MT nD τ sig Unit (Elt F) ℕ UU ℕ) := embR

/-- No loop of the kernel needs a variant. -/
abbrev 𝒱₀ : Variants := Variants.none

variable (m : (ℓ : Loc nD τ sig) → Buf (Elt F) ℓ) (ρ : Dev nD → PrngReg)

/-- The state at launch: any memory, every semaphore at zero, any generator registers. -/
def s₀ : MemSt nD τ sig (Elt F) := ⟨m, fun _ => 0, ρ⟩

/-! ## The devices -/

/-- The coordinate along y. -/
def yc (c : Dev nD) : ℕ := c.val / 4 % 4
/-- The column block a device reduces. -/
def qc (c : Dev nD) : Fin 4 := ⟨(2 * (c.val / 16) + c.val % 2) % 4, Nat.mod_lt _ (by decide)⟩
/-- The device of coordinates x, y, z (each taken modulo its extent). -/
def mk (x y z : ℕ) : Dev nD := ⟨(16 * (x % 2) + 4 * (y % 4) + z % 4) % 32, Nat.mod_lt _ (by decide)⟩
/-- The next and the previous device along y. -/
def nxt (c : Dev nD) : Dev nD := mk (c.val / 16) (yc c + 1) (c.val % 4)
/-- The previous device along y. -/
def prv (c : Dev nD) : Dev nD := mk (c.val / 16) (yc c + 3) (c.val % 4)
/-- The three partners of the exchange: z flipped within its pair, x flipped, both. -/
def pr (k : Fin 3) (c : Dev nD) : Dev nD :=
  mk (c.val / 16 + min k.val 1) (yc c) (c.val % 4 / 2 * 2 + (c.val + 1 + k.val % 2) % 2)
/-- The member of a device's group that reduces column block `j`. -/
def own (j : Fin 4) (c : Dev nD) : Dev nD := mk (j.val / 2) (yc c) (c.val % 4 / 2 * 2 + j.val % 2)

/-- The device before the next one is the device itself. -/
theorem prv_nxt : ∀ c, prv (nxt c) = c := by decide +kernel
/-- The device after the previous one is the device itself. -/
theorem nxt_prv : ∀ c, nxt (prv c) = c := by decide +kernel
/-- The exchange pairs devices: the partner's partner is the device itself. -/
theorem pr_pr : ∀ k c, pr k (pr k c) = c := by decide +kernel
/-- The next device along y reduces the same column block. -/
theorem qc_nxt : ∀ c, qc (nxt c) = qc c := by decide +kernel
/-- The previous device along y reduces the same column block. -/
theorem qc_prv : ∀ c, qc (prv c) = qc c := by decide +kernel
/-- A device is the member of its group that reduces its own column block. -/
theorem own_self : ∀ c, own (qc c) c = c := by decide +kernel
/-- A partner is the member of the group that reduces the partner's column block. -/
theorem own_pr : ∀ k c, own (qc (pr k c)) c = pr k c := by decide +kernel
/-- The owner of column block `j` reduces column block `j`. -/
theorem qc_own : ∀ j c, qc (own j c) = j := by decide +kernel
/-- The members of a group have the same coordinate along y. -/
theorem yc_own : ∀ j c, yc (own j c) = yc c := by decide +kernel

/-- The ring along y and the three exchanges, as permutations of the devices. -/
def ringE : Dev nD ≃ Dev nD := ⟨nxt, prv, prv_nxt, nxt_prv⟩
/-- The exchange with partner `k`, as a permutation of the devices. -/
def prE (k : Fin 3) : Dev nD ≃ Dev nD := ⟨pr k, pr k, pr_pr k, pr_pr k⟩

/-! ## The blocks -/

/-- The staged part of x, whole. -/
abbrev xM : Memref sig .tc .vmem S1x512x2048 .f32 := Memref.whole cc0_stg0_0
/-- The staged result, whole. -/
abbrev oM : Memref sig .tc .vmem S512x512 .f32 := Memref.whole cc0_stg1_0
/-- The landing buffer, whole. -/
abbrev rM : Memref sig .tc .vmem S4x4x128x128 .f32 := Memref.whole cc0_scratch0

/-- A slot lies within the landing buffer. -/
theorem slotR_inb (u t : Fin 4) : ∀ a, (![u.val, t.val, 0, 0] : Fin 4 → ℕ) a + S1x1x128x128.size a ≤ S4x4x128x128.size a := by
  revert u t; decide +kernel
/-- Slot `t` of chain `u` in the landing buffer, as a rectangle and as the block that travels. -/
abbrev slotR (u t : Fin 4) : Rect S4x4x128x128 := Rect.unit (s := S4x4x128x128) ![u.val, t.val, 0, 0] S1x1x128x128.size (slotR_inb u t)
/-- Slot `t` of chain `u` as the 128 × 128 block that travels. -/
abbrev slot (u t : Fin 4) : Memref sig .tc .vmem S128x128 .f32 :=
  (rM.slice (slotR u t) (fun _ => rfl)).squeeze S128x128 squeezes_S1x1x128x128_S128x128

/-- Where row block `u` of the chunk device `c` adds at ring step `k` starts, in its part of x. -/
def xOff (c : Dev nD) (u : Fin 4) (k : ℕ) : Fin 3 → ℕ := ![0, 128 * u.val, 512 * ((yc c + 7 - k) % 4) + 128 * (qc c).val]
/-- The block at `xOff` lies within the part of x. -/
theorem xOff_inb (c : Dev nD) (u : Fin 4) (k : ℕ) : ∀ a, xOff c u k a + S1x128x128.size a ≤ S1x512x2048.size a := by
  have h1 := u.isLt
  have h2 := (qc c).isLt
  have h3 : (yc c + 7 - k) % 4 < 4 := Nat.mod_lt _ (by decide)
  intro a
  fin_cases a <;> simp [xOff] <;> omega
/-- The block of x at `xOff`, as a rectangle. -/
abbrev xR (c : Dev nD) (u : Fin 4) (k : ℕ) : Rect S1x512x2048 := Rect.unit (s := S1x512x2048) (xOff c u k) S1x128x128.size (xOff_inb c u k)
/-- The block of x at `xOff`, as the 128 × 128 block that travels. -/
abbrev xS (c : Dev nD) (u : Fin 4) (k : ℕ) : Memref sig .tc .vmem S128x128 .f32 :=
  (xM.slice (xR c u k) (fun _ => rfl)).squeeze S128x128 squeezes_S1x128x128_S128x128

/-- A block of the result lies within it. -/
theorem oR_inb (u q : Fin 4) : ∀ a, (![128 * u.val, 128 * q.val] : Fin 2 → ℕ) a + S128x128.size a ≤ S512x512.size a := by
  revert u q; decide +kernel
/-- Row block `u`, column block `q` of the result. -/
abbrev oR (u q : Fin 4) : Rect S512x512 := Rect.unit (s := S512x512) ![128 * u.val, 128 * q.val] S128x128.size (oR_inb u q)
/-- Row block `u`, column block `q` of the result, as the 128 × 128 block that travels. -/
abbrev oS (u q : Fin 4) : Memref sig .tc .vmem S128x128 .f32 := oM.slice (oR u q) (fun _ => rfl)

/-! ## The semaphores -/

/-- A transfer's semaphore: kind (0 ring send, 1 ring receive, 2 exchange send, 3 exchange receive), chain `u`, and
    the ring step or the partner. -/
abbrev Ci : Type := Fin 4 × Fin 4 × Fin 3

/-- Its place in the device's semaphores. -/
def semNo (i : Ci) : ℕ := match i.1.val with
  | 0 => 2 + 3 * i.2.1.val + i.2.2.val
  | 1 => 14 + 3 * i.2.1.val + i.2.2.val
  | 2 => 26 + 4 * i.2.2.val + i.2.1.val
  | _ => 38 + 4 * i.2.2.val + i.2.1.val
/-- Every transfer's place is one of the device's semaphores. -/
theorem semNo_lt : ∀ i, semNo i < 50 := by decide +kernel
/-- A transfer's semaphore. -/
def semOf (i : Ci) : DmaSem sig := ⟨semNo i, semNo_lt i⟩
/-- Which transfer a semaphore serves, if any. -/
def dec (s : DmaSem sig) : Option Ci := (Finset.univ.toList : List Ci).find? fun i => semOf i = s
/-- Different transfers have different semaphores. -/
theorem semOf_inj : Function.Injective semOf := by
  have h : ∀ i j, semNo i = semNo j → i = j := by decide +kernel
  exact fun i j hij => h i j (congrArg Fin.val hij)
/-- A transfer's semaphore serves that transfer. -/
theorem dec_semOf (i : Ci) : dec (semOf i) = some i := by
  unfold dec
  have hs : ((Finset.univ.toList : List Ci).find? fun j => semOf j = semOf i).isSome :=
    List.find?_isSome.mpr ⟨i, Finset.mem_toList.mpr (Finset.mem_univ i), by simp⟩
  obtain ⟨j, hj⟩ := Option.isSome_iff_exists.mp hs
  have := List.find?_some hj
  rw [hj]
  exact congrArg some (semOf_inj (by simpa using this))
/-- A semaphore that serves a transfer is that transfer's. -/
theorem dec_eq_some {s : DmaSem sig} {i : Ci} (h : dec s = some i) : s = semOf i := by
  have := List.find?_some h
  exact (by simpa using this : semOf i = s).symm

/-- The barrier semaphore of the launch. -/
abbrev barS : Sem sig := (SemArray.scalar (sig.barrier 0 rfl) : Sems sig S_).sem

/-- The barrier cell of device `c`. -/
abbrev barCell (c : Dev nD) : GSem nD τ sig := ((c : Thread nD τ), .reg barS)
/-- The cell of transfer `i` on device `c`. -/
abbrev cell (c : Dev nD) (i : Ci) : GSem nD τ sig := ((c : Thread nD τ), .dma (semOf i))
/-- The semaphores of the transfers, as places on a device. -/
abbrev osem : Ci → SemLoc sig := fun i => .dma (semOf i)
/-- All the cells of a device: the barrier and the transfers. -/
abbrev csem : Option Ci → SemLoc sig := fun | none => .reg barS | some i => .dma (semOf i)
/-- The cell of a device at a given place, over all devices. -/
abbrev kcell (ck : Dev nD × Option Ci) : GSem nD τ sig := ((ck.1 : Thread nD τ), csem ck.2)

/-- The credit of one 128 × 128 block. -/
def N : ℕ := (slot 0 0).view.dmaCredit
/-- A block's credit is not zero. -/
theorem N_pos : 0 < N := View.dmaCredit_pos _ (by decide)
/-- A slot of the landing buffer has the credit of one block. -/
theorem credit_slot (u t : Fin 4) : (slot u t).view.dmaCredit = N := rfl
/-- A block of the result has the credit of one block. -/
theorem credit_out (u q : Fin 4) : (oS u q).view.dmaCredit = N := by rfl
/-- A block of x has the credit of one block. -/
theorem credit_x (c : Dev nD) (u : Fin 4) (k : ℕ) : (xS c u k).view.dmaCredit = N := by rfl

/-- So has a 128 × 128 slice of the result wherever it starts. -/
theorem credit_oslice {off : Fin 2 → ℕ} (h : ∀ a, off a + S128x128.size a ≤ S512x512.size a) :
    (oM.slice (Rect.unit (s := S512x512) off S128x128.size h) (fun _ => rfl)).view.dmaCredit = N := by rfl

/-- So has a 128 × 128 slice of x wherever it starts. -/
theorem credit_xslice {off : Fin 3 → ℕ} (h : ∀ a, off a + S1x128x128.size a ≤ S1x512x2048.size a) :
    ((xM.slice (Rect.unit (s := S1x512x2048) off S1x128x128.size h) (fun _ => rfl)).squeeze S128x128 squeezes_S1x128x128_S128x128).view.dmaCredit = N := by rfl

/-- Which device's cell the device `c` fills when it pays the duty of kind `i`. -/
def tgt (i : Ci) (c : Dev nD) : Dev nD := match i.1.val with
  | 1 => nxt c
  | 3 => pr i.2.2 c
  | _ => c
/-- `tgt i` as a permutation of the devices. -/
def tgtE (i : Ci) : Dev nD ≃ Dev nD := match i.1.val with
  | 1 => ringE
  | 3 => prE i.2.2
  | _ => Equiv.refl _
/-- The permutation `tgtE i` takes each device where `tgt i` does. -/
theorem tgtE_apply (i : Ci) (c : Dev nD) : tgtE i c = tgt i c := by
  unfold tgtE tgt; split <;> rfl
/-- Whose barrier cell the device `c` fills with its signal number `d`. -/
def btgt (d : Fin 5) (c : Dev nD) : Dev nD := match d.val with
  | 0 => prv c
  | 1 => nxt c
  | 2 => pr 0 c
  | 3 => pr 1 c
  | _ => pr 2 c
/-- `btgt d` as a permutation of the devices. -/
def btgtE (d : Fin 5) : Dev nD ≃ Dev nD := match d.val with
  | 0 => ringE.symm
  | 1 => ringE
  | 2 => prE 0
  | 3 => prE 1
  | _ => prE 2
/-- The permutation `btgtE d` takes each device where `btgt d` does. -/
theorem btgtE_apply (d : Fin 5) (c : Dev nD) : btgtE d c = btgt d c := by
  unfold btgtE btgt; split <;> rfl

/-! ## The contents -/

/-- A device's part of x as staged. -/
def xstg (c : Dev nD) : (cc0_stg0_0 : Ref sig .tc).ty.Contents (Elt F) :=
  (win0_0.blk (0 : Fin 1)).view.read (Elt F) ((s₀ m ρ).mem ((c : Thread nD τ).loc main_arg0))

/-- The block of x device `c` adds to chain `u` at ring step `k` (step 0: the block it starts from). -/
def xs (c : Dev nD) (u : Fin 4) (k : ℕ) : FVec F S128x128 .f32 := (xS c u k).view.read (Elt F) (xstg m ρ c)

/-- The partial sum device `c` holds for chain `u` after `s` ring steps: the previous device's, and its own block. -/
def acc : ℕ → Dev nD → Fin 4 → FVec F S128x128 .f32
  | 0 => fun c u => xs m ρ c u 0
  | s + 1 => fun c u => addf (acc s (prv c) u) (xs m ρ c u (s + 1))

/-- The result on device `c`: each column block is the one its owner in the group reduced. -/
def outAt (c : Dev nD) : (cc0_stg1_0 : Ref sig .tc).ty.Contents (Elt F) := fun j =>
  have h0 : (j (0 : Fin 2)).val < 512 := (j (0 : Fin 2)).isLt
  have h1 : (j (1 : Fin 2)).val < 512 := (j (1 : Fin 2)).isLt
  acc m ρ 3 (own ⟨(j (1 : Fin 2)).val / 128, by omega⟩ c) ⟨(j (0 : Fin 2)).val / 128, by omega⟩
    (Fin.cons ⟨(j (0 : Fin 2)).val % 128, by show _ < 128; omega⟩ (Fin.cons ⟨(j (1 : Fin 2)).val % 128, by show _ < 128; omega⟩ finZeroElim))

/-- Row block `u`, column block `q` of the result is the finished sum of chain `u` on the owner of `q`. -/
theorem outAt_block (c : Dev nD) (u q : Fin 4) : (fun j => outAt m ρ c ((oR u q).emb j)) = acc m ρ 3 (own q c) u := by
  funext j
  have e0 : (((oR u q).emb j) (0 : Fin 2)).val = 128 * u.val + (j (0 : Fin 2)).val := by
    show 128 * u.val + 1 * (j (0 : Fin 2)).val = _; omega
  have e1 : (((oR u q).emb j) (1 : Fin 2)).val = 128 * q.val + (j (1 : Fin 2)).val := by
    show 128 * q.val + 1 * (j (1 : Fin 2)).val = _; omega
  have h0 : (j (0 : Fin 2)).val < 128 := (j (0 : Fin 2)).isLt
  have h1 : (j (1 : Fin 2)).val < 128 := (j (1 : Fin 2)).isLt
  have hu : ∀ h, (⟨(((oR u q).emb j) (0 : Fin 2)).val / 128, h⟩ : Fin 4) = u := fun h => Fin.ext (by show _ / 128 = _; rw [e0]; omega)
  have hq : ∀ h, (⟨(((oR u q).emb j) (1 : Fin 2)).val / 128, h⟩ : Fin 4) = q := fun h => Fin.ext (by show _ / 128 = _; rw [e1]; omega)
  unfold outAt
  simp only [hu, hq]
  congr 1
  funext a
  fin_cases a
  · exact Fin.ext (by show _ % 128 = _; rw [e0]; show _ = (j (0 : Fin 2)).val; omega)
  · exact Fin.ext (by show _ % 128 = _; rw [e1]; show _ = (j (1 : Fin 2)).val; omega)

end Cert.RingProof
-- ==== Proof.Sched.lean ====
/-
The schedule of the kernel's semaphores: for each cell, which duties its one round has, how much each pays, and what
each hands to the device that waits — stated with the contents of every block that lands.
-/
module

public import proofs.«01_k».proof.Proof.Mesh

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Blocks held -/

/-- Device `c` holds the memref `M` at share `q` with contents `X`. -/
abbrev held (c : Dev nD) {sp : Space} {s : Shape} (M : Memref sig .tc sp s .f32) (q : PosShare TreeShare) (X : s.Idx → Elt F .f32) : sProp 𝕄 :=
  owns (c : Thread nD τ) M q X
/-- Device `c` holds the whole of `M`, whatever is in it. -/
abbrev free (c : Dev nD) {sp : Space} {s : Shape} (M : Memref sig .tc sp s .f32) : sProp 𝕄 :=
  iprop(∃ X : s.Idx → Elt F .f32, held c M fullShare X)

/-- The share of a finished block lent to the copy to partner `k`: three that make the whole. -/
def exSh (k : Fin 3) : PosShare TreeShare := match k.val with
  | 0 => fullShare.left
  | 1 => fullShare.right.left
  | _ => fullShare.right.right

/-! ## The payloads -/

/-- What a signal on `c`'s barrier hands `c`. From the next device of the ring: its landing slots 1, 2, 3. From the
    previous one: nothing. From partner `k`: the blocks of its result in `c`'s column block. -/
def barPay (c : Dev nD) (d : Fin 5) : sProp 𝕄 := match d.val with
  | 0 => bigSep Finset.univ fun u : Fin 4 => bigSep Finset.univ fun t : Fin 3 => free (nxt c) (slot u t.succ)
  | 1 => iprop(emp)
  | 2 => bigSep Finset.univ fun u : Fin 4 => free (pr 0 c) (oS u (qc c))
  | 3 => bigSep Finset.univ fun u : Fin 4 => free (pr 1 c) (oS u (qc c))
  | _ => bigSep Finset.univ fun u : Fin 4 => free (pr 2 c) (oS u (qc c))

/-- The block a ring send takes: at step 0 half of a block of x, later the slot the partial sum is in. -/
def ringSrc (c : Dev nD) (u : Fin 4) (t : Fin 3) : sProp 𝕄 := match t.val with
  | 0 => held c (xS c u 0) fullShare.left (acc m ρ 0 c u)
  | 1 => held c (slot u 1) fullShare (acc m ρ 1 c u)
  | _ => held c (slot u 2) fullShare (acc m ρ 2 c u)

/-- What the transfer of kind `i` hands device `c`: a send its source again; a ring receive, in slot `t + 1`, the partial
    sum of the previous device; an exchange receive the partner's finished block. -/
def xferPay (i : Ci) (c : Dev nD) : sProp 𝕄 := match i.1.val with
  | 0 => ringSrc m ρ c i.2.1 i.2.2
  | 1 => held c (slot i.2.1 i.2.2.succ) fullShare (acc m ρ i.2.2.val (prv c) i.2.1)
  | 2 => held c (oS i.2.1 (qc c)) (exSh i.2.2) (acc m ρ 3 c i.2.1)
  | _ => held c (oS i.2.1 (qc (pr i.2.2 c))) fullShare (acc m ρ 3 (pr i.2.2 c) i.2.1)

omit [FloatOps F] in
instance barPay_storable (c : Dev nD) (d : Fin 5) : BI.Storable (upEmb : UEmb _ 𝕄) (barPay (F := F) c d) := by
  unfold barPay; split <;> infer_instance
instance ringSrc_storable (c : Dev nD) (u : Fin 4) (t : Fin 3) : BI.Storable (upEmb : UEmb _ 𝕄) (ringSrc (F := F) m ρ c u t) := by
  unfold ringSrc; split <;> infer_instance
instance xferPay_storable (i : Ci) (c : Dev nD) : BI.Storable (upEmb : UEmb _ 𝕄) (xferPay (F := F) m ρ i c) := by
  unfold xferPay; split <;> infer_instance

/-- The schedule: one round; a barrier cell has five duties of one unit, a transfer's cell one duty of a block's credit. -/
def sched : Rounds.Schedule (GSem nD τ sig) (Fin 5) 𝕄 where
  duties g r := if r = 0 ∧ g.1.2 = .tc then (match g.2 with
    | .reg s => if s = barS then Finset.univ else ∅
    | .dma s => if (dec s).isSome then {0} else ∅) else ∅
  unitless _ := False
  amount g _ _ := match g.2 with
    | .reg _ => 1
    | .dma _ => N
  payload g _ d := match g.2 with
    | .reg _ => barPay g.1.1 d
    | .dma s => match dec s with
      | some i => xferPay m ρ i g.1.1
      | none => iprop(emp)
  amount_pos g _ _ _ := by
    split
    · exact Nat.one_pos
    · exact N_pos

instance sched_payload_storable (g : GSem nD τ sig) (r : ℕ) (d : Fin 5) :
    BI.Storable (upEmb : UEmb _ 𝕄) ((sched (F := F) m ρ).payload g r d) := by
  unfold sched; dsimp only
  split
  · infer_instance
  · split <;> infer_instance

section Facts
variable (c : Dev nD) (i : Ci)

/-- A barrier cell has all five duties in its round. -/
theorem duties_bar : (sched (F := F) m ρ).duties (barCell c) 0 = Finset.univ := by
  dsimp only [sched]; rw [if_pos ⟨rfl, rfl⟩, if_pos rfl]
/-- A transfer's cell has one duty in its round. -/
theorem duties_xfer : (sched (F := F) m ρ).duties (cell c i) 0 = {0} := by
  dsimp only [sched]; rw [if_pos ⟨rfl, rfl⟩, if_pos (by rw [dec_semOf]; rfl)]
/-- There are no duties after the first round. -/
theorem duties_later (g : GSem nD τ sig) : ∀ r, 1 ≤ r → (sched (F := F) m ρ).duties g r = ∅ :=
  fun r hr => by dsimp only [sched]; rw [if_neg fun h => by omega]

/-- A barrier duty is worth one unit. -/
theorem amount_bar (d : Fin 5) : (sched (F := F) m ρ).amount (barCell c) 0 d = 1 := rfl
/-- A transfer's duty is worth a block's credit. -/
theorem amount_xfer (d : Fin 5) : (sched (F := F) m ρ).amount (cell c i) 0 d = N := rfl

/-- A barrier cell expects five units. -/
theorem expect_bar : (sched (F := F) m ρ).expect (barCell c) 0 = 5 := by
  unfold Schedule.expect Schedule.amountOf
  rw [duties_bar, Finset.sum_congr rfl fun d _ => amount_bar m ρ c d, Finset.sum_const, Finset.card_univ, Fintype.card_fin, smul_eq_mul]
/-- A transfer's cell expects a block's credit. -/
theorem expect_xfer : (sched (F := F) m ρ).expect (cell c i) 0 = N := by
  unfold Schedule.expect Schedule.amountOf; rw [duties_xfer, Finset.sum_singleton, amount_xfer]

/-- What a barrier duty hands over. -/
theorem payload_bar (d : Fin 5) : (sched (F := F) m ρ).payload (barCell c) 0 d = barPay c d := rfl
/-- What a transfer's duty hands over. -/
theorem payload_xfer (d : Fin 5) : (sched (F := F) m ρ).payload (cell c i) 0 d = xferPay m ρ i c := by
  dsimp only [sched]; rw [dec_semOf]

/-- The whole round of a barrier cell, of a transfer's cell. -/
theorem rest_bar : bigSep ((sched (F := F) m ρ).duties (barCell c) 0 \ ∅) (fun d => (sched (F := F) m ρ).payload (barCell c) 0 d)
    = bigSep Finset.univ fun d => barPay c d := by
  rw [Finset.sdiff_empty, duties_bar]; rfl
/-- With nothing taken yet, all a transfer's round hands over is its one payload. -/
theorem rest_xfer : bigSep ((sched (F := F) m ρ).duties (cell c i) 0 \ ∅) (fun d => (sched (F := F) m ρ).payload (cell c i) 0 d) = xferPay m ρ i c := by
  rw [Finset.sdiff_empty, duties_xfer, bigSep_singleton, payload_xfer]

end Facts

/-! ## What is owed, and the levels -/

/-- The receives the device pays for, in the order it starts the transfers. -/
def seq : List Ci :=
  [(1, 0, 0), (1, 1, 0), (1, 2, 0), (1, 3, 0), (1, 0, 1), (1, 1, 1), (1, 2, 1), (1, 3, 1), (1, 0, 2), (1, 1, 2), (1, 2, 2), (1, 3, 2),
    (3, 0, 0), (3, 0, 1), (3, 0, 2), (3, 1, 0), (3, 1, 1), (3, 1, 2), (3, 2, 0), (3, 2, 1), (3, 2, 2), (3, 3, 0), (3, 3, 1), (3, 3, 2)]

/-- What a device still owes with the transfers `l` to start: their receivers' credits. -/
def owed (c : Dev nD) : List Ci → CellTallies nD τ sig Unit
  | [] => 0
  | i :: l => owed c l + tallyAt (cell (tgt i c) i) () N
/-- What it owes with the barrier signals `ds` to give too. -/
def owedB (c : Dev nD) : List (Fin 5) → CellTallies nD τ sig Unit
  | [] => owed c seq
  | d :: l => owedB c l + tallyAt (barCell (btgt d c)) () 1
/-- What a device owes at the start: all five signals and every receiver's credit. -/
def O₀ (c : Dev nD) : CellTallies nD τ sig Unit := owedB c [0, 1, 2, 3, 4]

/-- The tensor cores' cells carry a level; no others do. -/
def L (g : GSem nD τ sig) : Finset Unit := if g.1.2 = .tc then {()} else ∅
/-- The level of a transfer: ring receives rise with the step, exchange receives are above them, sends are at 0. -/
def lev (i : Ci) : ℕ := match i.1.val with
  | 1 => 2 + i.2.2.val
  | 3 => 5
  | _ => 0
/-- Barrier cells are at level 1; a semaphore that serves no transfer of the kernel at 0. -/
def lv (g : GSem nD τ sig) (_ : Unit) : ℕ := match g.2 with
  | .reg _ => 1
  | .dma s => match dec s with
    | some i => lev i
    | none => 0

/-- A cell of another core carries no level. -/
theorem L_of_ne (g : GSem nD τ sig) (h : g.1.2 ≠ .tc) : L g = ∅ := if_neg h
/-- A cell of a tensor core carries one level. -/
theorem L_tc (c : Dev nD) (sm : SemLoc sig) : L ((c : Thread nD τ), sm) = {()} := if_pos rfl
/-- A transfer's cell is at the transfer's level. -/
theorem lv_cell (c : Dev nD) (i : Ci) (u : Unit) : lv (cell c i) u = lev i := by dsimp only [lv]; rw [dec_semOf]

/-- Whatever is owed with the transfers `l` to start is owed to the receiver of one of them. -/
theorem owed_pos {c : Dev nD} {l : List Ci} {g : GSem nD τ sig} {u : Unit} (h : 0 < owed c l g u) :
    ∃ i ∈ l, g = cell (tgt i c) i := by
  induction l with
  | nil => exact absurd h (Nat.lt_irrefl 0)
  | cons i l ih =>
    unfold owed at h
    rw [Pi.add_apply, Finsupp.add_apply, tallyAt_apply] at h
    by_cases hg : g = cell (tgt i c) i ∧ u = ()
    · exact ⟨i, List.mem_cons_self, hg.1⟩
    · rw [if_neg hg, Nat.add_zero] at h
      obtain ⟨j, hj, e⟩ := ih h
      exact ⟨j, List.mem_cons_of_mem _ hj, e⟩
/-- Whatever is owed with signals still to give is owed to a receiver or to a barrier. -/
theorem owedB_pos {c : Dev nD} {l : List (Fin 5)} {g : GSem nD τ sig} {u : Unit} (h : 0 < owedB c l g u) :
    (∃ i ∈ seq, g = cell (tgt i c) i) ∨ ∃ d, g = barCell (btgt d c) := by
  induction l with
  | nil => exact Or.inl (owed_pos h)
  | cons d l ih =>
    unfold owedB at h
    rw [Pi.add_apply, Finsupp.add_apply, tallyAt_apply] at h
    by_cases hg : g = barCell (btgt d c) ∧ u = ()
    · exact Or.inr ⟨d, hg.1⟩
    · rw [if_neg hg, Nat.add_zero] at h
      exact ih h

/-- The levels, as one assertion kept closed. -/
@[irreducible] def levs : sProp 𝕄 := levAts L lv
omit [FloatOps F] in
/-- The level records, unfolded. -/
theorem levs_eq : (levs (F := F)) = levAts L lv := by unfold levs; rfl
omit [FloatOps F] in
instance levs_persistent : BI.Persistent (levs (F := F)) := by rw [levs_eq]; infer_instance

/-- A device may wait on a cell below everything it still owes. -/
theorem mayWait (c : Dev nD) (sm : SemLoc sig) (n : ℕ) (O : CellTallies nD τ sig Unit) (hn : lv ((c : Thread nD τ), sm) () ≤ n)
    (hO : ∀ g u, 0 < O g u → g.1.2 = .tc ∧ n < lv g u) :
    (levs : sProp 𝕄) ⊢ MayWait (c : Thread nD τ) sm () O := by
  rw [levs_eq]
  exact MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- A device may wait for transfer `i` while all it owes is at higher levels. -/
theorem mayWait_xfer (c : Dev nD) (i : Ci) (l : List Ci) (h : ∀ j ∈ l, lev i < lev j) :
    (levs : sProp 𝕄) ⊢ MayWait (c : Thread nD τ) (.dma (semOf i)) () (owed c l) :=
  mayWait c _ (lev i) _ (by rw [lv_cell]) fun g u hg => by
    obtain ⟨j, hj, rfl⟩ := owed_pos hg
    exact ⟨rfl, by rw [lv_cell]; exact h j hj⟩
/-- A device may wait at its barrier while it owes all its transfers. -/
theorem mayWait_bar (c : Dev nD) : (levs : sProp 𝕄) ⊢ MayWait (c : Thread nD τ) (.reg barS) () (owed c seq) :=
  mayWait c _ 1 _ (Nat.le_refl 1) fun g u hg => by
    obtain ⟨j, hj, rfl⟩ := owed_pos hg
    refine ⟨rfl, ?_⟩
    rw [lv_cell]
    exact (by decide : ∀ j ∈ seq, 1 < lev j) j hj
/-- The pipeline's own semaphores serve no transfer of the kernel: they are below everything owed. -/
theorem mayWait_stage (c : Dev nD) (s : DmaSem sig) (hs : dec s = none) (O : CellTallies nD τ sig Unit) (hO : O = O₀ c ∨ O = 0) :
    (levs : sProp 𝕄) ⊢ MayWait (c : Thread nD τ) (.dma s) () O := by
  rcases hO with rfl | rfl
  · refine mayWait c _ 0 _ (by dsimp only [lv]; rw [hs]) fun g u hg => ?_
    rcases owedB_pos hg with ⟨j, hj, rfl⟩ | ⟨d, rfl⟩
    · refine ⟨rfl, ?_⟩
      rw [lv_cell]
      exact (by decide : ∀ j ∈ seq, 0 < lev j) j hj
    · exact ⟨rfl, Nat.one_pos⟩
  · rw [MayWait_zero]; iintro -; iempintro

end Cert.RingProof
-- ==== Proof.Steps.lean ====
/-
The kernel's moves, each as one rule: a wait on a transfer's semaphore, a transfer to another device, and the addition
of a landed block to a block of x.
-/
module

public import proofs.«01_k».proof.Proof.Sched

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What every device knows -/

/-- Every cell's invariant, under the names `K`, and that every cell has reached its round. -/
def records (K : Dev nD × Option Ci → ℕ) : sProp 𝕄 :=
  iprop((bigSep Finset.univ fun ck : Dev nD × Option Ci => cellInv ER (sched m ρ) (K ck) (kcell ck))
    ∗ bigSep Finset.univ fun ck : Dev nD × Option Ci => reached ER (kcell ck) 0)
instance records_persistent (K : Dev nD × Option Ci → ℕ) : BI.Persistent (records m ρ K) := by unfold records; infer_instance

/-- The records and the levels. -/
def env (K : Dev nD × Option Ci → ℕ) : sProp 𝕄 := iprop(records m ρ K ∗ levs)
instance env_persistent (K : Dev nD × Option Ci → ℕ) : BI.Persistent (env m ρ K) := by unfold env; infer_instance

variable (K : Dev nD × Option Ci → ℕ)

/-- Of all the cells' invariants, that of one cell. -/
theorem inv_at (ck : Dev nD × Option Ci) :
    (bigSep Finset.univ fun ck : Dev nD × Option Ci => (cellInv ER (sched m ρ) (K ck) (kcell ck) : sProp 𝕄)) ⊢ cellInv ER (sched m ρ) (K ck) (kcell ck) :=
  bigSep_elim (Finset.mem_univ ck)
omit [FloatOps F] in
/-- Of all the cells' rounds reached, that of one cell. -/
theorem reached_at (ck : Dev nD × Option Ci) :
    (bigSep Finset.univ fun ck : Dev nD × Option Ci => (reached ER (kcell ck) 0 : sProp 𝕄)) ⊢ reached ER (kcell ck) 0 :=
  bigSep_elim (Finset.mem_univ ck)
/-- The environment has every cell's invariant. -/
theorem env_inv (ck : Dev nD × Option Ci) : (env m ρ K : sProp 𝕄) ⊢ cellInv ER (sched m ρ) (K ck) (kcell ck) := by
  unfold env records
  iintro ⟨⟨H, -⟩, -⟩
  iapply (inv_at m ρ K ck); iexact H
/-- The environment knows that every cell has reached its round. -/
theorem env_reached (ck : Dev nD × Option Ci) : (env m ρ K : sProp 𝕄) ⊢ reached ER (kcell ck) 0 := by
  unfold env records
  iintro ⟨⟨-, H⟩, -⟩
  iapply (reached_at (F := F) ck); iexact H
/-- The environment has the level records. -/
theorem env_lev : (env m ρ K : sProp 𝕄) ⊢ levs := by
  unfold env; iintro ⟨-, H⟩; iexact H

omit [FloatOps F] in
/-- Holding a memref is holding its elements at contents it reads so. -/
theorem held_elim (c : Dev nD) {sp : Space} {s : Shape} (M : Memref sig .tc sp s .f32) (q : PosShare TreeShare) (X : s.Idx → Elt F .f32) :
    (held c M q X : sProp 𝕄) ⊢ iprop(∃ f, ⌜M.view.read (Elt F) f = X⌝ ∗ (M.view.loc (c : Thread nD τ) ↦[M.view.set]{q} f)) := .rfl
omit [FloatOps F] in
/-- A memref whose buffer is owned on its elements is held, with the contents read there. -/
theorem held_intro (c : Dev nD) {sp : Space} {s : Shape} (M : Memref sig .tc sp s .f32) (q : PosShare TreeShare) {X : s.Idx → Elt F .f32}
    (f : M.view.ty.Contents (Elt F)) (h : M.view.read (Elt F) f = X) : (M.view.loc (c : Thread nD τ) ↦[M.view.set]{q} f : sProp 𝕄) ⊢ held c M q X :=
  h ▸ owns_intro (c : Thread nD τ) M q f

/-- Device `c` owes the receivers of the transfers `l`. -/
def owes' (c : Dev nD) (l : List Ci) : sProp 𝕄 := iprop(∃ W, owes (c : Thread nD τ) (owed c l) W)

/-- Running device `c`'s program `e` to `Q`. -/
abbrev run (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- What the device holds for a transfer's cell of its own while the credit is out: its place in the round, and the
    credit to wait with. -/
def pend (c : Dev nD) (i : Ci) : sProp 𝕄 := iprop(atPos ER (cell c i) 0 ∅ 0 ∗ cred (tallyAt (cell c i) () N))

/-! ## The wait -/

/-- A wait on a transfer's semaphore, below everything owed: the transfer's payload, and the semaphore back at zero. -/
theorem wp_wait_xfer {α : Type} {Q : α → sProp 𝕄} (c : Dev nD) (i : Ci) (l : List Ci) (h : ∀ j ∈ l, lev i < lev j)
    {sem : DmaSem sig} (hsem : sem = semOf i) {sp : Space} {src : Memref sig .tc sp S128x128 .f32} {dst : Memref sig .tc .vmem S128x128 .f32}
    (hN : dst.view.dmaCredit = N) {hs : src.view.WordExact} {hd : dst.view.WordExact}
    {k : PUnit → Prog (TpuEff nD τ sig (Elt F) Λ₀ .tc) α} :
    iprop(env m ρ K ∗ pend c i ∗ owes' c l)
      ⊢ iprop(((owes' c l ∗ semVal (cell c i) 0 ∗ xferPay m ρ i c) -∗ run c (k ⟨⟩) Q)
          -∗ run c (.op (.waitDma2 sem src dst hs hd) k) Q) := by
  subst hsem
  unfold owes' pend
  iintro ⟨#He, ⟨Hat, Hc⟩, ⟨%W, Ho⟩⟩ Hk
  iapply (Rounds.wp_wait_rest_token 𝒱₀ ER (sched m ρ) (c : Thread nD τ) none (κ := K (c, some i)) (sm := .dma (semOf i))
      (fun Kt => (wpE_waitDma2_eq 𝒱₀ (c : Thread nD τ) none Set.univ Kt).trans (by rw [hN])) (Set.mem_univ _) () (O := owed c l) (W := W) (R := 0) (m := 0) (T := ∅)
      (k' := N) (by rw [Nat.zero_add, expect_xfer])) $$ [Hc Ho Hat]
  · isplitr; · iapply (env_inv m ρ K (c, some i)); iexact He
    isplitl [Hc]; · iexact Hc
    isplitl [Ho]; · iexact Ho
    isplitr; · iapply ((env_lev m ρ K).trans (mayWait_xfer c i l h)); iexact He
    iexact Hat
  iintro ⟨Ho, Hat, -, Hp⟩
  ihave Hp := (Entails.of_eq (rest_xfer m ρ c i)) $$ Hp
  imod (Rounds.cell_close ER (sched m ρ) (Set.mem_univ (K (c, some i))) (fun h => h) (R := 0 + 1) (duties_later m ρ (cell c i))) $$ [Hat] with Hz
  · isplitr; · iapply (env_inv m ρ K (c, some i)); iexact He
    iexact Hat
  iapply Hk
  isplitl [Ho]; · iexists _; iexact Ho
  isplitl [Hz] <;> iassumption

/-! ## The transfer -/

/-- What device `c` holds to start a transfer with send cell `i` and receive cell `j` (on the device it targets): its
    place in the send cell's round and the two duties' tokens. -/
def ready (c : Dev nD) (i j : Ci) : sProp 𝕄 :=
  iprop(atPos ER (cell c i) 0 ∅ 0 ∗ dutyTok ER (cell c i) 0 (0 : Fin 5) ∗ dutyTok ER (cell (tgt j c) j) 0 (0 : Fin 5))

/-- A transfer to the device `tgt j c`: the source is lent until the send wait, the destination is overwritten with it. -/
theorem wp_send_xfer {α : Type} {Q : α → sProp 𝕄} (c : Dev nD) (i j : Ci) (l : List Ci) {n : Dev nD} (hn : n = tgt j c)
    {semS semR : DmaSem sig} (hS : semS = semOf i) (hR : semR = semOf j)
    {src dst : Memref sig .tc .vmem S128x128 .f32} {q : PosShare TreeShare} {X : FVec F S128x128 .f32}
    (hN : dst.view.dmaCredit = N) (hi : held c src q X ⊢ xferPay m ρ i c) (hj : held (tgt j c) dst fullShare X ⊢ xferPay m ρ j (tgt j c))
    {hsc : dst.view.ref.isScScratch = false} {hsrc : src.view.WordExact} {hdst : dst.view.WordExact}
    {hsem : DmaTarget.Typed .vmem (.dma semR) (.remote (Dev.tc n : Thread nD τ) dst (.dma semS) hsc)}
    {k : PUnit → Prog (TpuEff nD τ sig (Elt F) Λ₀ .tc) α} :
    iprop(env m ρ K ∗ held c src q X ∗ free (tgt j c) dst ∗ ready c i j ∗ owes' c (j :: l))
      ⊢ iprop(((owes' c l ∗ pend c i) -∗ run c (k ⟨⟩) Q)
          -∗ run c (.op (.enqueueDma src (.remote (Dev.tc n : Thread nD τ) dst (.dma semS) hsc) (.dma semR) hsrc hdst hsem) k) Q) := by
  subst hn hS hR
  unfold owes' pend ready
  iintro ⟨#He, Hs, ⟨%Y, Hd⟩, ⟨Hat, Ht1, Ht2⟩, ⟨%W, Ho⟩⟩ Hk
  ihave Hs := (held_elim c src q X) $$ Hs
  icases Hs with ⟨%fs, %hfs, Hs⟩
  ihave Hd := (held_elim (tgt j c) dst fullShare Y) $$ Hd
  icases Hd with ⟨%fd, %hfd, Hd⟩
  iapply (Rounds.wp_send_pointsTo 𝒱₀ ER (sched m ρ) (c : Thread nD τ) none (κ₁ := K (c, some i)) (κ₂ := K (tgt j c, some j))
    (r₁ := 0) (r₂ := 0) (d₁ := 0) (d₂ := 0) (fd := fd) (fs := fs) (q := q)
    (by rw [duties_xfer]; exact Finset.mem_singleton_self _) (by rw [duties_xfer]; exact Finset.mem_singleton_self _)
    () () N (show dst.view.amount (.dma (semOf j)) = N from hN) (amount_xfer m ρ c i 0) (amount_xfer m ρ (tgt j c) j 0) (owed c l) rfl (W := W)
    (by rw [payload_xfer]; exact (held_intro c src q fs hfs).trans hi)
    (by
      rw [payload_xfer]
      exact (held_intro (tgt j c) dst fullShare _ ((View.read_write_univ (v := dst.view) fd _).trans hfs)).trans hj)) $$ [Hs Hd Ho Ht1 Ht2]
  · isplitr; · iapply (env_inv m ρ K (c, some i)); iexact He
    isplitr; · iapply (env_inv m ρ K (tgt j c, some j)); iexact He
    isplitl [Hs]; · iexact Hs
    isplitl [Hd]; · iexact Hd
    isplitl [Ho]; · iexact Ho
    isplitl [Ht1]; · iexact Ht1
    isplitr; · iapply (env_reached m ρ K (c, some i)); iexact He
    isplitl [Ht2]; · iexact Ht2
    iapply (env_reached m ρ K (tgt j c, some j)); iexact He
  iintro ⟨Hc, Ho⟩
  iapply Hk
  isplitl [Ho]; · iexists W; iexact Ho
  isplitl [Hat] <;> iassumption

/-! ## The addition -/

/-- The half of x a device keeps for its own loads. -/
def xHalf (c : Dev nD) : sProp 𝕄 :=
  (xM : Memref sig .tc .vmem S1x512x2048 .f32).view.loc (c : Thread nD τ) ↦[Finset.univ]{fullShare.right} xstg m ρ c

/-- Loading the block of x of ring step `k`: the value, as a 128 × 128 block. -/
theorem xs_load (c : Dev nD) (u : Fin 4) (k : ℕ) (h : S1x128x128.ShapeCasts S128x128) :
    shapeCast S128x128 ((xM : Memref sig .tc .vmem S1x512x2048 .f32).view.readAt (Elt F) (xR c u k).toLoadRect (xstg m ρ c)) h = xs m ρ c u k := rfl
/-- A load of a slot, reshaped to 128 × 128, reads the block that travels. -/
theorem slot_load (u t : Fin 4) (f : (cc0_scratch0 : Ref sig .tc).ty.Contents (Elt F)) (h : S1x1x128x128.ShapeCasts S128x128) :
    shapeCast S128x128 ((rM : Memref sig .tc .vmem S4x4x128x128 .f32).view.readAt (Elt F) (slotR u t).toLoadRect f) h = (slot u t).view.read (Elt F) f := rfl
/-- After a store to a slot the block that travels is the stored vector, reshaped to 128 × 128. -/
theorem slot_store (u t : Fin 4) (f : (cc0_scratch0 : Ref sig .tc).ty.Contents (Elt F)) (w : Vec F S1x1x128x128 .f32) (h : S1x1x128x128.ShapeCasts S128x128) :
    (slot u t).view.read (Elt F) (((rM : Memref sig .tc .vmem S4x4x128x128 .f32).access (slotR u t) : View sig .tc _ _ _).write (Elt F) f w Finset.univ)
      = shapeCast S128x128 w h :=
  funext fun j => congrFun (View.read_write_univ (v := (rM : Memref sig .tc .vmem S4x4x128x128 .f32).view.slice (slotR u t)) f w) (Shape.reshapeEquiv h j)
/-- A slot as a block and as a rectangle of the landing buffer has the same elements. -/
theorem slot_set (u t : Fin 4) : (slot u t).view.set = (rM : Memref sig .tc .vmem S4x4x128x128 .f32).view.setOn (slotR u t).set :=
  (View.set_reshape _ _).trans (View.set_slice _ _)

/-- The sum of a landed block and a block of x, both as loaded. -/
abbrev sumOf (a : Vec F S1x128x128 .f32) (b : Vec F S1x1x128x128 .f32) : FVec F S128x128 .f32 :=
  addf (shapeCast S128x128 b shapeCasts_S1x1x128x128_S128x128) (shapeCast S128x128 a shapeCasts_S1x128x128_S128x128)

/-- Ring step `s` < 2 on chain `u`: load x and the landed block, store their sum in its place. -/
theorem wp_add {α : Type} {Q : α → sProp 𝕄} (c : Dev nD) (u t : Fin 4) (s : ℕ) {offx : Fin 3 → ℕ} (hx : offx = xOff c u (s + 1)) {offr : Fin 4 → ℕ} (hr : offr = ![u.val, t.val, 0, 0])
    {hbx : ∀ a, offx a + S1x128x128.size a ≤ S1x512x2048.size a} {hbr : ∀ a, offr a + S1x1x128x128.size a ≤ S4x4x128x128.size a}
    {pay : Vec F S1x128x128 .f32 → Vec F S1x1x128x128 .f32 → Vec F S1x1x128x128 .f32}
    (hpay : ∀ a b, shapeCast S128x128 (pay a b) shapeCasts_S1x1x128x128_S128x128 = sumOf a b)
    {h1 : (xM : Memref sig .tc .vmem S1x512x2048 .f32).view.LoadsAt (Rect.unit (s := S1x512x2048) offx S1x128x128.size hbx).toLoadRect}
    {h2 h3 : (rM : Memref sig .tc .vmem S4x4x128x128 .f32).view.LoadsAt (Rect.unit (s := S4x4x128x128) offr S1x1x128x128.size hbr).toLoadRect}
    {h4 : ((rM : Memref sig .tc .vmem S4x4x128x128 .f32).access (Rect.unit (s := S4x4x128x128) offr S1x1x128x128.size hbr)).Stores Finset.univ}
    {h5 : (Finset.univ : Finset (Rect.unit (s := S4x4x128x128) offr S1x1x128x128.size hbr).shape.Idx) = Finset.univ ∨ ∀ a, (Rect.unit (s := S4x4x128x128) offr S1x1x128x128.size hbr).stride a = 1}
    {k : PUnit → Prog (TpuEff nD τ sig (Elt F) Λ₀ .tc) α} :
    iprop(xHalf m ρ c ∗ held c (slot u t) fullShare (acc m ρ s (prv c) u))
      ⊢ iprop(((xHalf m ρ c ∗ held c (slot u t) fullShare (acc m ρ (s + 1) c u)) -∗ run c (k ⟨⟩) Q)
          -∗ run c (.op (.load xM (Rect.unit (s := S1x512x2048) offx S1x128x128.size hbx).toLoadRect h1) fun a =>
              .op (.load rM (Rect.unit (s := S4x4x128x128) offr S1x1x128x128.size hbr).toLoadRect h2) fun b =>
              .op (.load rM (Rect.unit (s := S4x4x128x128) offr S1x1x128x128.size hbr).toLoadRect h3) fun _ =>
              .op (.store rM (Rect.unit (s := S4x4x128x128) offr S1x1x128x128.size hbr) (pay a b) Finset.univ h4 h5) k) Q) := by
  subst hx hr
  unfold xHalf
  iintro ⟨Hx, Hs⟩ Hk
  ihave Hs := (held_elim c (slot u t) fullShare (acc m ρ s (prv c) u)) $$ Hs
  icases Hs with ⟨%f, %hf, Hs⟩
  iapply (wp_load 𝒱₀ (c : Thread nD τ) none Set.univ (m := xM) (Finset.subset_univ _)) $$ Hx; iintro Hx
  iapply (wp_load 𝒱₀ (c : Thread nD τ) none Set.univ (m := rM) (S := (slot u t).view.set) (by rw [slot_set])) $$ Hs; iintro Hs
  iapply (wp_load 𝒱₀ (c : Thread nD τ) none Set.univ (m := rM) (S := (slot u t).view.set) (by rw [slot_set])) $$ Hs; iintro Hs
  iapply (wp_store 𝒱₀ (c : Thread nD τ) none Set.univ (m := rM) (r := slotR u t) (Mk := Finset.univ) (S := (slot u t).view.set)
    (by rw [slot_set]; exact (View.set_slice _ _).le)) $$ Hs; iintro Hs
  iapply Hk
  isplitl [Hx]; · iexact Hx
  iapply (held_intro c (slot u t) fullShare _ ?_) $$ Hs
  rw [slot_store _ _ _ _ shapeCasts_S1x1x128x128_S128x128, hpay]
  unfold sumOf
  rw [xs_load, slot_load, hf]
  rfl

/-- The last ring step on chain `u`: the sum goes to the device's own block of the result. -/
theorem wp_add_out {α : Type} {Q : α → sProp 𝕄} (c : Dev nD) (u t q : Fin 4) (s : ℕ) {offx : Fin 3 → ℕ} (hx : offx = xOff c u (s + 1)) {offr : Fin 4 → ℕ} (hr : offr = ![u.val, t.val, 0, 0])
    {offo : Fin 2 → ℕ} (ho : offo = ![128 * u.val, 128 * q.val])
    {hbx : ∀ a, offx a + S1x128x128.size a ≤ S1x512x2048.size a} {hbr : ∀ a, offr a + S1x1x128x128.size a ≤ S4x4x128x128.size a}
    {hbo : ∀ a, offo a + S128x128.size a ≤ S512x512.size a}
    {pay : Vec F S1x128x128 .f32 → Vec F S1x1x128x128 .f32 → Vec F S128x128 .f32}
    (hpay : ∀ a b, pay a b = sumOf a b)
    {h1 : (xM : Memref sig .tc .vmem S1x512x2048 .f32).view.LoadsAt (Rect.unit (s := S1x512x2048) offx S1x128x128.size hbx).toLoadRect}
    {h2 : (rM : Memref sig .tc .vmem S4x4x128x128 .f32).view.LoadsAt (Rect.unit (s := S4x4x128x128) offr S1x1x128x128.size hbr).toLoadRect}
    {h3 : (oM : Memref sig .tc .vmem S512x512 .f32).view.LoadsAt (Rect.unit (s := S512x512) offo S128x128.size hbo).toLoadRect}
    {h4 : ((oM : Memref sig .tc .vmem S512x512 .f32).access (Rect.unit (s := S512x512) offo S128x128.size hbo)).Stores Finset.univ}
    {h5 : (Finset.univ : Finset (Rect.unit (s := S512x512) offo S128x128.size hbo).shape.Idx) = Finset.univ ∨ ∀ a, (Rect.unit (s := S512x512) offo S128x128.size hbo).stride a = 1}
    {k : PUnit → Prog (TpuEff nD τ sig (Elt F) Λ₀ .tc) α} :
    iprop(xHalf m ρ c ∗ held c (slot u t) fullShare (acc m ρ s (prv c) u) ∗ free c (oS u q))
      ⊢ iprop(((xHalf m ρ c ∗ free c (slot u t) ∗ held c (oS u q) fullShare (acc m ρ (s + 1) c u)) -∗ run c (k ⟨⟩) Q)
          -∗ run c (.op (.load xM (Rect.unit (s := S1x512x2048) offx S1x128x128.size hbx).toLoadRect h1) fun a =>
              .op (.load rM (Rect.unit (s := S4x4x128x128) offr S1x1x128x128.size hbr).toLoadRect h2) fun b =>
              .op (.load oM (Rect.unit (s := S512x512) offo S128x128.size hbo).toLoadRect h3) fun _ =>
              .op (.store oM (Rect.unit (s := S512x512) offo S128x128.size hbo) (pay a b) Finset.univ h4 h5) k) Q) := by
  subst hx hr ho
  unfold xHalf
  iintro ⟨Hx, Hs, ⟨%Y, Ho⟩⟩ Hk
  ihave Hs := (held_elim c (slot u t) fullShare (acc m ρ s (prv c) u)) $$ Hs
  icases Hs with ⟨%f, %hf, Hs⟩
  ihave Ho := (held_elim c (oS u q) fullShare Y) $$ Ho
  icases Ho with ⟨%g, %hg, Ho⟩
  iapply (wp_load 𝒱₀ (c : Thread nD τ) none Set.univ (m := xM) (Finset.subset_univ _)) $$ Hx; iintro Hx
  iapply (wp_load 𝒱₀ (c : Thread nD τ) none Set.univ (m := rM) (S := (slot u t).view.set) (by rw [slot_set])) $$ Hs; iintro Hs
  iapply (wp_load 𝒱₀ (c : Thread nD τ) none Set.univ (m := oM) (S := (oS u q).view.set) (by exact Finset.Subset.antisymm_iff.mp (View.set_slice _ _) |>.2)) $$ Ho; iintro Ho
  iapply (wp_store 𝒱₀ (c : Thread nD τ) none Set.univ (m := oM) (r := oR u q) (Mk := Finset.univ) (S := (oS u q).view.set)
    (Finset.Subset.refl _)) $$ Ho; iintro Ho
  iapply Hk
  isplitl [Hx]; · iexact Hx
  isplitl [Hs]
  · iexists _; iapply (held_intro c (slot u t) fullShare f hf) $$ Hs
  iapply (held_intro c (oS u q) fullShare _ ?_) $$ Ho
  refine (View.read_write_univ (v := (oM : Memref sig .tc .vmem S512x512 .f32).view.slice (oR u q)) g _).trans ?_
  rw [hpay]
  unfold sumOf
  rw [xs_load, slot_load, hf]
  rfl

end Cert.RingProof
-- ==== Proof.Ledger.lean ====
/-
The ledger of a device while the kernel runs: the transfers still to start, those to be waited for and those done, each
kept as a list in the order the program takes them, and the program's stretches as rules on the ledger.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Ci → ℕ)

/-! ## Assertions along a list -/

/-- The assertions of a list's members, together. -/
def sepL {I : Type} (Φ : I → sProp 𝕄) : List I → sProp 𝕄
  | [] => iprop(emp)
  | i :: l => iprop(Φ i ∗ sepL Φ l)

omit [FloatOps F] in
/-- Over a list with a head, the head's assertion is apart from the others. -/
theorem sepL_cons {I : Type} (Φ : I → sProp 𝕄) (i : I) (l : List I) : sepL Φ (i :: l) = iprop(Φ i ∗ sepL Φ l) := rfl

omit [FloatOps F] in
/-- Over a list without repeats it is the same as over the set of its members. -/
theorem sepL_bigSep {I : Type} [DecidableEq I] (Φ : I → sProp 𝕄) : ∀ l : List I, l.Nodup → sepL Φ l = bigSep l.toFinset Φ
  | [], _ => by unfold sepL; rw [List.toFinset_nil, bigSep_empty]; rfl
  | i :: l, h => by
    unfold sepL
    rw [List.toFinset_cons, bigSep_insert (by rw [List.mem_toFinset]; exact (List.nodup_cons.mp h).1), sepL_bigSep Φ l (List.nodup_cons.mp h).2]; rfl
omit [FloatOps F] in
/-- A list with no repetition that has every member of a type: the assertions of the whole type. -/
theorem sepL_univ {I : Type} [DecidableEq I] [Fintype I] (Φ : I → sProp 𝕄) (l : List I) (h : l.Nodup) (hl : l.toFinset = Finset.univ) :
    sepL Φ l = bigSep Finset.univ Φ := by rw [sepL_bigSep Φ l h, hl]
omit [FloatOps F] in
/-- The order of a list does not matter. -/
theorem sepL_perm {I : Type} [DecidableEq I] (Φ : I → sProp 𝕄) {l l' : List I} (h : l.Nodup) (p : l.Perm l') : sepL Φ l = sepL Φ l' := by
  rw [sepL_bigSep Φ l h, sepL_bigSep Φ l' (p.nodup_iff.mp h), List.toFinset_eq_of_perm _ _ p]
omit [FloatOps F] in
/-- Over two lists put together it splits in two. -/
theorem sepL_append {I : Type} [DecidableEq I] (Φ : I → sProp 𝕄) {l l' : List I} (h : (l ++ l').Nodup) :
    sepL Φ (l ++ l') = iprop(sepL Φ l ∗ sepL Φ l') := by
  have h' := List.nodup_append.mp h
  rw [sepL_bigSep Φ _ h, sepL_bigSep Φ l h'.1, sepL_bigSep Φ l' h'.2.1, List.toFinset_append,
    bigSep_union (Finset.disjoint_left.mpr fun a ha hb => h'.2.2 a (List.mem_toFinset.mp ha) a (List.mem_toFinset.mp hb) rfl)]
  rfl

omit [FloatOps F] in
/-- Over four indices, written out. -/
theorem sep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
/-- Over three indices, written out. -/
theorem sep_fin3 (Φ : Fin 3 → sProp 𝕄) : bigSep Finset.univ Φ = iprop(Φ 0 ∗ Φ 1 ∗ Φ 2) :=
  bigSep_univ_eq_bigSepL [(0 : Fin 3), 1, 2] (by decide) (by decide) Φ
omit [FloatOps F] in
/-- Over five indices, written out. -/
theorem sep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
/-- The transfers of one kind. -/
def kindE (a : Fin 4) : Fin 4 × Fin 3 ↪ Ci := ⟨fun p => (a, p), fun p q h => (Prod.mk.inj h).2⟩
/-- The assertions of all transfers of kind `a`. -/
def kind (Φ : Ci → sProp 𝕄) (a : Fin 4) : sProp 𝕄 := bigSep Finset.univ fun p : Fin 4 × Fin 3 => Φ (a, p)
omit [FloatOps F] in
/-- Over the transfers of one kind, as over a set of transfers. -/
theorem kind_map (Φ : Ci → sProp 𝕄) (a : Fin 4) : kind Φ a = bigSep (Finset.univ.map (kindE a)) Φ := (bigSep_map (kindE a)).symm
omit [FloatOps F] in
/-- Over the transfers of one kind, chain by chain. -/
theorem kind_nest (Φ : Ci → sProp 𝕄) (a : Fin 4) :
    kind Φ a = bigSep Finset.univ fun u : Fin 4 => bigSep Finset.univ fun t : Fin 3 => Φ (a, u, t) := bigSep_univ_prod _
omit [FloatOps F] in
/-- Over the transfers of one kind, two assertions split. -/
theorem kind_sep (Φ Ψ : Ci → sProp 𝕄) (a : Fin 4) : kind (fun i => iprop(Φ i ∗ Ψ i)) a = iprop(kind Φ a ∗ kind Ψ a) := bigSep_sep' _ _ _
omit [FloatOps F] in
/-- Over all the transfers, kind by kind. -/
theorem all_kinds (Φ : Ci → sProp 𝕄) : bigSep Finset.univ Φ = iprop(kind Φ 0 ∗ kind Φ 1 ∗ kind Φ 2 ∗ kind Φ 3) :=
  (bigSep_univ_prod Φ).trans (sep_fin4 _)
omit [FloatOps F] in
/-- Over a list of all the transfers of one kind. -/
theorem sepL_kind (Φ : Ci → sProp 𝕄) (a : Fin 4) (l : List Ci) (h : l.Nodup) (hl : l.toFinset = Finset.univ.map (kindE a)) :
    sepL Φ l = kind Φ a := by rw [sepL_bigSep Φ l h, hl, kind_map]
omit [FloatOps F] in
/-- Over a list of all the transfers of two kinds. -/
theorem sepL_kinds (Φ : Ci → sProp 𝕄) {a b : Fin 4} (hab : a ≠ b) (l : List Ci) (h : l.Nodup)
    (hl : l.toFinset = Finset.univ.map (kindE a) ∪ Finset.univ.map (kindE b)) : sepL Φ l = iprop(kind Φ a ∗ kind Φ b) := by
  rw [sepL_bigSep Φ l h, hl, kind_map, kind_map]
  refine bigSep_union (Finset.disjoint_left.mpr fun i hi hj => hab ?_)
  obtain ⟨p, -, hp⟩ := Finset.mem_map.mp hi
  obtain ⟨q, -, hq⟩ := Finset.mem_map.mp hj
  exact (congrArg Prod.fst hp).trans (congrArg Prod.fst hq).symm

/-! ## The payloads, kind by kind -/

/-- A ring send gives back its source. -/
theorem pay_send (c : Dev nD) (u : Fin 4) (t : Fin 3) : xferPay m ρ (0, u, t) c = ringSrc m ρ c u t := rfl
/-- A ring receive gives, in its slot, the partial sum of the previous device. -/
theorem pay_recv (c : Dev nD) (u : Fin 4) (t : Fin 3) :
    xferPay m ρ (1, u, t) c = held c (slot u t.succ) fullShare (acc m ρ t.val (prv c) u) := rfl
/-- An exchange send gives back its share of the finished block. -/
theorem pay_copy (c : Dev nD) (u : Fin 4) (k : Fin 3) : xferPay m ρ (2, u, k) c = held c (oS u (qc c)) (exSh k) (acc m ρ 3 c u) := rfl
/-- An exchange receive gives the partner's finished block. -/
theorem pay_got (c : Dev nD) (u : Fin 4) (k : Fin 3) :
    xferPay m ρ (3, u, k) c = held c (oS u (qc (pr k c))) fullShare (acc m ρ 3 (pr k c) u) := rfl
/-- A ring transfer goes to the next device. -/
theorem tgt_ring (u : Fin 4) (t : Fin 3) (c : Dev nD) : tgt (1, u, t) c = nxt c := rfl
/-- An exchange transfer goes to the partner. -/
theorem tgt_pr (u : Fin 4) (k : Fin 3) (c : Dev nD) : tgt (3, u, k) c = pr k c := rfl
/-- What a ring transfer puts in the next device's slot is what that device's receive is to hand over. -/
theorem fill_ring (c : Dev nD) (u : Fin 4) (t : Fin 3) :
    held (tgt (1, u, t) c) (slot u t.succ) fullShare (acc m ρ t.val c u) ⊢ xferPay m ρ (1, u, t) (tgt (1, u, t) c) := by
  rw [tgt_ring, pay_recv, prv_nxt]
/-- What a copy puts in a partner's result is what the partner's receive is to hand over. -/
theorem fill_pr (c : Dev nD) (u : Fin 4) (k : Fin 3) :
    held (tgt (3, u, k) c) (oS u (qc c)) fullShare (acc m ρ 3 c u) ⊢ xferPay m ρ (3, u, k) (tgt (3, u, k) c) := by
  rw [tgt_pr, pay_got, pr_pr]

/-! ## The ledger -/

/-- The send that belongs to a receive. -/
def back (j : Ci) : Ci := match j.1.val with
  | 1 => (0, j.2)
  | _ => (2, j.2)
/-- The block of another device that the transfer paying the receive `j` overwrites. -/
def dstFree (c : Dev nD) (j : Ci) : sProp 𝕄 := match j.1.val with
  | 1 => free (nxt c) (slot j.2.1 j.2.2.succ)
  | _ => free (pr j.2.2 c) (oS j.2.1 (qc c))
/-- All a device needs, besides the source, to start the transfer paying the receive `j`. -/
def setup (c : Dev nD) (j : Ci) : sProp 𝕄 := iprop(ready c (back j) j ∗ dstFree c j)
omit [FloatOps F] in
/-- A ring transfer overwrites a slot of its target. -/
theorem dst_ring (c : Dev nD) (u : Fin 4) (t : Fin 3) : dstFree (F := F) c (1, u, t) ⊢ free (tgt (1, u, t) c) (slot u t.succ) := .rfl
omit [FloatOps F] in
/-- An exchange transfer overwrites a block of its target's result. -/
theorem dst_pr (c : Dev nD) (u : Fin 4) (k : Fin 3) : dstFree (F := F) c (3, u, k) ⊢ free (tgt (3, u, k) c) (oS u (qc c)) := .rfl
/-- A transfer waited for: its semaphore at zero, and what it handed over. -/
def done (c : Dev nD) (i : Ci) : sProp 𝕄 := iprop(semVal (cell c i) 0 ∗ xferPay m ρ i c)

/-- While the ring runs: the transfers `todo` to start, the sends `pool` under way, the receives `rem` to wait for, those
    waited for `zs`, and the half of x kept for loads. -/
def ring (c : Dev nD) (todo pool rem zs : List Ci) : sProp 𝕄 :=
  iprop(sepL (setup c) todo ∗ sepL (pend c) pool ∗ sepL (pend c) rem ∗ sepL (fun i => semVal (cell c i) 0) zs ∗ owes' c todo ∗ xHalf m ρ c)
/-- While the device waits for the rest: the transfers `rem` to wait for and those done. -/
def drain (c : Dev nD) (rem dn : List Ci) : sProp 𝕄 :=
  iprop(sepL (pend c) rem ∗ sepL (done m ρ c) dn ∗ owes' c [])

/-- The next transfer is started, from a source held. -/
theorem ring_send {α : Type} {Q : α → sProp 𝕄} (c : Dev nD) (i j : Ci) (todo pool rem zs : List Ci) (hij : back j = i) {n : Dev nD} (hn : n = tgt j c)
    {semS semR : DmaSem sig} (hS : semS = semOf i) (hR : semR = semOf j)
    {src dst : Memref sig .tc .vmem S128x128 .f32} (q : PosShare TreeShare) (X : FVec F S128x128 .f32)
    (hN : dst.view.dmaCredit = N) (hf : dstFree (F := F) c j ⊢ free (tgt j c) dst) (hi : held c src q X ⊢ xferPay m ρ i c) (hj : held (tgt j c) dst fullShare X ⊢ xferPay m ρ j (tgt j c))
    {hsc : dst.view.ref.isScScratch = false} {hsrc : src.view.WordExact} {hdst : dst.view.WordExact}
    {hsem : DmaTarget.Typed .vmem (.dma semR) (.remote (Dev.tc n : Thread nD τ) dst (.dma semS) hsc)}
    {k : PUnit → Prog (TpuEff nD τ sig (Elt F) Λ₀ .tc) α} :
    iprop(env m ρ K ∗ held c src q X ∗ ring m ρ c (j :: todo) pool rem zs)
      ⊢ iprop((ring m ρ c todo (i :: pool) rem zs -∗ run c (k ⟨⟩) Q)
          -∗ run c (.op (.enqueueDma src (.remote (Dev.tc n : Thread nD τ) dst (.dma semS) hsc) (.dma semR) hsrc hdst hsem) k) Q) := by
  unfold ring
  rw [sepL_cons, sepL_cons]
  unfold setup
  iintro ⟨#He, Hs, ⟨⟨Hr, Hf⟩, Ht⟩, Hp, Hrem, Hz, Ho, Hx⟩ Hk
  rw [hij]
  iapply (wp_send_xfer m ρ K c i j todo hn hS hR hN hi hj) $$ [Hs Hr Hf Ho]
  · isplitr; · iexact He
    isplitl [Hs]; · iexact Hs
    isplitl [Hf]; · iapply hf; iexact Hf
    isplitl [Hr]; · iexact Hr
    iexact Ho
  iintro ⟨Ho, Hn⟩
  iapply Hk
  isplitl [Ht]; · iexact Ht
  isplitl [Hn Hp]
  · isplitl [Hn] <;> iassumption
  isplitl [Hrem]; · iexact Hrem
  isplitl [Hz]; · iexact Hz
  isplitl [Ho] <;> iassumption

/-- The next receive of the ring is waited for: the partial sum it brought is held. -/
theorem ring_wait {α : Type} {Q : α → sProp 𝕄} (c : Dev nD) (u : Fin 4) (t : Fin 3) (todo pool rem zs : List Ci) (h : ∀ j ∈ todo, lev (1, u, t) < lev j)
    {sem : DmaSem sig} (hsem : sem = semOf (1, u, t)) {sp : Space} {src : Memref sig .tc sp S128x128 .f32} {dst : Memref sig .tc .vmem S128x128 .f32}
    (hN : dst.view.dmaCredit = N) {hs : src.view.WordExact} {hd : dst.view.WordExact}
    {k : PUnit → Prog (TpuEff nD τ sig (Elt F) Λ₀ .tc) α} :
    iprop(env m ρ K ∗ ring m ρ c todo pool ((1, u, t) :: rem) zs)
      ⊢ iprop(((held c (slot u t.succ) fullShare (acc m ρ t.val (prv c) u) ∗ ring m ρ c todo pool rem ((1, u, t) :: zs)) -∗ run c (k ⟨⟩) Q)
          -∗ run c (.op (.waitDma2 sem src dst hs hd) k) Q) := by
  unfold ring
  rw [sepL_cons _ (1, u, t) rem, sepL_cons _ (1, u, t) zs]
  iintro ⟨#He, Ht, Hp, ⟨Hw, Hrem⟩, Hz, Ho, Hx⟩ Hk
  iapply (wp_wait_xfer m ρ K c (1, u, t) todo h hsem hN) $$ [Hw Ho]
  · isplitr; · iexact He
    isplitl [Hw] <;> iassumption
  iintro ⟨Ho, Hs, Hpay⟩
  ihave Hpay := (Entails.of_eq (pay_recv m ρ c u t)) $$ Hpay
  iapply Hk
  isplitl [Hpay]; · iexact Hpay
  isplitl [Ht]; · iexact Ht
  isplitl [Hp]; · iexact Hp
  isplitl [Hrem]; · iexact Hrem
  isplitl [Hs Hz]
  · isplitl [Hs] <;> iassumption
  isplitl [Ho] <;> iassumption

/-- One of the last waits: the transfer is done. -/
theorem drain_wait {α : Type} {Q : α → sProp 𝕄} (c : Dev nD) (i : Ci) (rem dn : List Ci)
    {sem : DmaSem sig} (hsem : sem = semOf i) {sp : Space} {src : Memref sig .tc sp S128x128 .f32} {dst : Memref sig .tc .vmem S128x128 .f32}
    (hN : dst.view.dmaCredit = N) {hs : src.view.WordExact} {hd : dst.view.WordExact}
    {k : PUnit → Prog (TpuEff nD τ sig (Elt F) Λ₀ .tc) α} :
    iprop(env m ρ K ∗ drain m ρ c (i :: rem) dn)
      ⊢ iprop((drain m ρ c rem (i :: dn) -∗ run c (k ⟨⟩) Q)
          -∗ run c (.op (.waitDma2 sem src dst hs hd) k) Q) := by
  unfold drain
  rw [sepL_cons _ i rem, sepL_cons _ i dn]
  iintro ⟨#He, ⟨Hw, Hrem⟩, Hd, Ho⟩ Hk
  iapply (wp_wait_xfer m ρ K c i [] (fun _ h => absurd h List.not_mem_nil) hsem hN) $$ [Hw Ho]
  · isplitr; · iexact He
    isplitl [Hw] <;> iassumption
  iintro ⟨Ho, Hs, Hpay⟩
  iapply Hk
  isplitl [Hrem]; · iexact Hrem
  isplitl [Hd Hs Hpay]
  · unfold done
    isplitl [Hs Hpay]
    · isplitl [Hs] <;> iassumption
    iexact Hd
  iexact Ho

/-! ## The ledger at a point of the ring -/

/-- The order in which the receives are waited for. -/
def recvs : List Ci :=
  [(1, 0, 0), (1, 1, 0), (1, 2, 0), (1, 3, 0), (1, 0, 1), (1, 1, 1), (1, 2, 1), (1, 3, 1), (1, 0, 2), (1, 1, 2), (1, 2, 2), (1, 3, 2),
    (3, 0, 0), (3, 1, 0), (3, 2, 0), (3, 3, 0), (3, 0, 1), (3, 1, 1), (3, 2, 1), (3, 3, 1), (3, 0, 2), (3, 1, 2), (3, 2, 2), (3, 3, 2)]
/-- The order in which the sends are waited for. -/
def sends : List Ci :=
  [(0, 0, 0), (0, 0, 1), (0, 0, 2), (0, 1, 0), (0, 1, 1), (0, 1, 2), (0, 2, 0), (0, 2, 1), (0, 2, 2), (0, 3, 0), (0, 3, 1), (0, 3, 2),
    (2, 0, 0), (2, 1, 0), (2, 2, 0), (2, 3, 0), (2, 0, 1), (2, 1, 1), (2, 2, 1), (2, 3, 1), (2, 0, 2), (2, 1, 2), (2, 2, 2), (2, 3, 2)]

/-- The ledger when the first `a` transfers have been started and the first `b` receives waited for. -/
def stage (c : Dev nD) (a b : ℕ) : sProp 𝕄 :=
  ring m ρ c (seq.drop a) ((seq.take a).map back).reverse (recvs.drop b) (recvs.take b).reverse

/-- A list from place `a` on is its entry there and the list from the next place on. -/
theorem drop_head {I : Type} {l : List I} {a : ℕ} {j : I} (h : l[a]? = some j) : l.drop a = j :: l.drop (a + 1) := by
  obtain ⟨hl, e⟩ := List.getElem?_eq_some_iff.mp h
  rw [List.drop_eq_getElem_cons hl, e]
/-- The next transfer to start, and the next receive to wait for, taken off the ledger. -/
theorem stage_todo (c : Dev nD) {a b : ℕ} {j : Ci} (h : seq[a]? = some j) : stage m ρ c a b
    = ring m ρ c (j :: seq.drop (a + 1)) ((seq.take a).map back).reverse (recvs.drop b) (recvs.take b).reverse := by
  unfold stage; rw [drop_head h]
/-- The ledger with the next receive to wait for at the head. -/
theorem stage_rem (c : Dev nD) {a b : ℕ} {i : Ci} (h : recvs[b]? = some i) : stage m ρ c a b
    = ring m ρ c (seq.drop a) ((seq.take a).map back).reverse (i :: recvs.drop (b + 1)) (recvs.take b).reverse := by
  unfold stage; rw [drop_head h]
/-- The ledger just after transfer `j` has been started, with the send under way at the head. -/
theorem stage_started (c : Dev nD) {a b : ℕ} {j : Ci} (h : seq[a]? = some j) : stage m ρ c (a + 1) b
    = ring m ρ c (seq.drop (a + 1)) (back j :: ((seq.take a).map back).reverse) (recvs.drop b) (recvs.take b).reverse := by
  unfold stage; rw [List.take_add_one, h]; simp
/-- The ledger just after receive `i` has been waited for, with it at the head of those done. -/
theorem stage_waited (c : Dev nD) {a b : ℕ} {i : Ci} (h : recvs[b]? = some i) : stage m ρ c a (b + 1)
    = ring m ρ c (seq.drop a) ((seq.take a).map back).reverse (recvs.drop (b + 1)) (i :: (recvs.take b).reverse) := by
  unfold stage; rw [List.take_add_one, h]; simp

/-! ## The ledger at a point of the last waits -/

/-- What is waited for after the ring, in order. -/
def rest : List Ci := recvs.drop 12 ++ sends
/-- The ledger when the first `n` of the last waits are done. -/
def last (c : Dev nD) (n : ℕ) : sProp 𝕄 := drain m ρ c (rest.drop n) (rest.take n).reverse

/-- When every transfer has been started and the ring is over, what remains is to wait for the rest. -/
theorem stage_last (c : Dev nD) : stage m ρ c 24 12
    ⊢ iprop(last m ρ c 0 ∗ kind (fun i => semVal (cell c i) 0) 1 ∗ xHalf m ρ c) := by
  unfold stage ring last drain
  rw [sepL_perm (pend c) (l := ((seq.take 24).map back).reverse) (l' := sends) (by decide) (by decide),
    sepL_kind (fun i => semVal (cell c i) 0) 1 (recvs.take 12).reverse (by decide) (by decide),
    show rest.drop 0 = recvs.drop 12 ++ sends from rfl, sepL_append (pend c) (l := recvs.drop 12) (l' := sends) (by decide)]
  iintro ⟨-, Hp, Hr, Hz, Ho, Hx⟩
  isplitl [Hp Hr Ho]
  · isplitl [Hp Hr]
    · isplitl [Hr] <;> iassumption
    isplitr; · unfold sepL; iempintro
    iexact Ho
  isplitl [Hz] <;> iassumption

/-- The next of the last waits. -/
theorem last_wait {α : Type} {Q : α → sProp 𝕄} (c : Dev nD) (n : ℕ) (i : Ci) (h : rest[n]? = some i)
    {sem : DmaSem sig} (hsem : sem = semOf i) {sp : Space} {src : Memref sig .tc sp S128x128 .f32} {dst : Memref sig .tc .vmem S128x128 .f32}
    (hN : dst.view.dmaCredit = N) {hs : src.view.WordExact} {hd : dst.view.WordExact}
    {k : PUnit → Prog (TpuEff nD τ sig (Elt F) Λ₀ .tc) α} :
    iprop(env m ρ K ∗ last m ρ c n)
      ⊢ iprop((last m ρ c (n + 1) -∗ run c (k ⟨⟩) Q) -∗ run c (.op (.waitDma2 sem src dst hs hd) k) Q) := by
  unfold last
  rw [drop_head h, show (rest.take (n + 1)).reverse = i :: (rest.take n).reverse by rw [List.take_add_one, h]; simp]
  exact drain_wait m ρ K c i _ _ hsem hN

/-- The next three of the last waits. -/
theorem last_wait3 {α : Type} {Q : α → sProp 𝕄} (c : Dev nD) (n : ℕ) (i₁ i₂ i₃ : Ci) (h₁ : rest[n]? = some i₁) (h₂ : rest[n + 1]? = some i₂) (h₃ : rest[n + 2]? = some i₃)
    {s₁ s₂ s₃ : DmaSem sig} (e₁ : s₁ = semOf i₁) (e₂ : s₂ = semOf i₂) (e₃ : s₃ = semOf i₃) {sp₁ sp₂ sp₃ : Space}
    {src₁ : Memref sig .tc sp₁ S128x128 .f32} {src₂ : Memref sig .tc sp₂ S128x128 .f32} {src₃ : Memref sig .tc sp₃ S128x128 .f32}
    {d₁ d₂ d₃ : Memref sig .tc .vmem S128x128 .f32} (N₁ : d₁.view.dmaCredit = N) (N₂ : d₂.view.dmaCredit = N) (N₃ : d₃.view.dmaCredit = N)
    {a₁ : src₁.view.WordExact} {a₂ : src₂.view.WordExact} {a₃ : src₃.view.WordExact} {b₁ : d₁.view.WordExact} {b₂ : d₂.view.WordExact} {b₃ : d₃.view.WordExact}
    {k : PUnit → Prog (TpuEff nD τ sig (Elt F) Λ₀ .tc) α} :
    iprop(env m ρ K ∗ last m ρ c n)
      ⊢ iprop((last m ρ c (n + 3) -∗ run c (k ⟨⟩) Q) -∗ run c (.op (.waitDma2 s₁ src₁ d₁ a₁ b₁) fun _ =>
          .op (.waitDma2 s₂ src₂ d₂ a₂ b₂) fun _ => .op (.waitDma2 s₃ src₃ d₃ a₃ b₃) k) Q) := by
  iintro ⟨#He, H⟩ Hk
  iapply (last_wait m ρ K c n i₁ h₁ e₁ N₁) $$ [H]
  · isplitr <;> iassumption
  iintro H
  iapply (last_wait m ρ K c (n + 1) i₂ h₂ e₂ N₂) $$ [H]
  · isplitr <;> iassumption
  iintro H
  iapply (last_wait m ρ K c (n + 2) i₃ h₃ e₃ N₃) $$ [H]
  · isplitr <;> iassumption
  iexact Hk

/-- All waited for: the semaphores at zero and what the transfers handed over. -/
theorem last_done (c : Dev nD) : last m ρ c 36 ⊢ iprop(owes' c []
    ∗ (kind (fun i => semVal (cell c i) 0) 0 ∗ kind (fun i => xferPay m ρ i c) 0)
    ∗ (kind (fun i => semVal (cell c i) 0) 2 ∗ kind (fun i => xferPay m ρ i c) 2)
    ∗ (kind (fun i => semVal (cell c i) 0) 3 ∗ kind (fun i => xferPay m ρ i c) 3)) := by
  unfold last drain
  rw [sepL_perm (done m ρ c) (l := (rest.take 36).reverse) (l' := recvs.drop 12 ++ sends) (by decide) (by decide),
    sepL_append (done m ρ c) (by decide), sepL_kind (done m ρ c) 3 _ (by decide) (by decide),
    sepL_kinds (done m ρ c) (a := 0) (b := 2) (by decide) sends (by decide) (by decide)]
  unfold done
  rw [kind_sep, kind_sep, kind_sep]
  iintro ⟨-, ⟨H3, H0, H2⟩, Ho⟩
  isplitl [Ho]; · iexact Ho
  isplitl [H0]; · iexact H0
  isplitl [H2] <;> iassumption

end Cert.RingProof
-- ==== Proof.Words.lean ====
/-
The words the kernel computes: the devices it addresses and the places of the blocks, as the devices and blocks they
name.
-/
module

public import proofs.«01_k».proof.Proof.Mesh

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The devices the barrier signals go to. -/
theorem dev_bar : ∀ (d : Fin 5) (c : Dev nD), (![k0_dev1, k0_dev2, k0_dev3, k0_dev4, k0_dev5] : Fin 5 → Dev nD → ℕ) d c = (btgt d c).val := by
  decide +kernel
/-- The devices the ring transfers go to, in the order they are started: the next along y. -/
theorem dev_ring : ∀ (n : Fin 12) (c : Dev nD), (![k0_dev6, k0_dev7, k0_dev8, k0_dev9, k0_dev10, k0_dev11, k0_dev12, k0_dev13,
    k0_dev14, k0_dev15, k0_dev16, k0_dev17] : Fin 12 → Dev nD → ℕ) n c = (nxt c).val := by
  decide +kernel
/-- The devices the finished blocks of chain `u` go to: the partners, in order. -/
theorem dev_pr : ∀ (u : Fin 4) (k : Fin 3) (c : Dev nD), (![![k0_dev18, k0_dev19, k0_dev20], ![k0_dev21, k0_dev22, k0_dev23],
    ![k0_dev24, k0_dev25, k0_dev26], ![k0_dev27, k0_dev28, k0_dev29]] : Fin 4 → Fin 3 → Dev nD → ℕ) u k c = (pr k c).val := by
  decide +kernel
/-- Where the first block of x of chain `u` is. -/
theorem off_start : ∀ (u : Fin 4) (c : Dev nD), (![k0_off1, k0_off2, k0_off3, k0_off4] : Fin 4 → Dev nD → Fin 3 → ℕ) u c = xOff c u 0 := by
  decide +kernel
/-- Where the block of x of ring step `s + 1` of chain `u` is. -/
theorem off_x : ∀ (u : Fin 4) (s : Fin 3) (c : Dev nD), (![k0_off5, k0_off6, k0_off7, k0_off8] : Fin 4 → Dev nD → BitVec 32 → Fin 3 → ℕ) u c (BitVec.ofNat 32 s.val) = xOff c u (s.val + 1) := by
  decide +kernel
/-- Where the finished block of chain `u` is, as it is stored and as it is copied. -/
theorem off_out : ∀ (u : Fin 4) (c : Dev nD), (![k0_off9, k0_off11, k0_off13, k0_off15] : Fin 4 → Dev nD → Fin 2 → ℕ) u c = ![128 * u.val, 128 * (qc c).val] := by
  decide +kernel
/-- The offsets at which the finished blocks are sliced are those of the device's column block, for each row block. -/
theorem off_copy : ∀ (u : Fin 4) (c : Dev nD), (![k0_off10, k0_off12, k0_off14, k0_off16] : Fin 4 → Dev nD → Fin 2 → ℕ) u c = ![128 * u.val, 128 * (qc c).val] := by
  decide +kernel

end Cert.RingProof
-- ==== Proof.Stretch.lean ====
/-
The stretches of the kernel between two barriers of its program text: starting a chain, a ring step that passes the
partial sum on, and the last ring step, which finishes a block and copies it to the three partners.
-/
module

public import proofs.«01_k».proof.Proof.Ledger
public import proofs.«01_k».proof.Proof.Words
public import Idealize.ShloMosaic.Lib.MemrefSat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Ci → ℕ)

/-- A chain is started: half of the first block of x goes to the next device. -/
theorem ring_start {α : Type} {Q : α → sProp 𝕄} (c : Dev nD) (u : Fin 4) (a b : ℕ) (ha : seq[a]? = some (1, u, 0)) {n : Dev nD} (hn : n.val = (nxt c).val)
    {semS semR : DmaSem sig} (hS : semS = semOf (0, u, 0)) (hR : semR = semOf (1, u, 0))
    {off : Fin 3 → ℕ} (hx : off = xOff c u 0) {hbx : ∀ a, off a + S1x128x128.size a ≤ S1x512x2048.size a}
    {dst : Memref sig .tc .vmem S128x128 .f32} (hdst' : dst = slot u 1)
    {hsc : dst.view.ref.isScScratch = false} {hsrc : (((xM : Memref sig .tc .vmem S1x512x2048 .f32).slice (Rect.unit (s := S1x512x2048) off S1x128x128.size hbx) (fun _ => rfl)).squeeze S128x128 squeezes_S1x128x128_S128x128).view.WordExact} {hdst : dst.view.WordExact}
    {hsem : DmaTarget.Typed .vmem (.dma semR) (.remote (Dev.tc n : Thread nD τ) dst (.dma semS) hsc)}
    {k : PUnit → Prog (TpuEff nD τ sig (Elt F) Λ₀ .tc) α} :
    iprop(env m ρ K ∗ held c (xS c u 0) fullShare.left (acc m ρ 0 c u) ∗ stage m ρ c a b)
      ⊢ iprop((stage m ρ c (a + 1) b -∗ run c (k ⟨⟩) Q)
          -∗ run c (.op (.enqueueDma (((xM : Memref sig .tc .vmem S1x512x2048 .f32).slice (Rect.unit (s := S1x512x2048) off S1x128x128.size hbx) (fun _ => rfl)).squeeze S128x128 squeezes_S1x128x128_S128x128)
              (.remote (Dev.tc n : Thread nD τ) dst (.dma semS) hsc) (.dma semR) hsrc hdst hsem) k) Q) := by
  subst hx hdst'
  rw [stage_todo m ρ c ha, stage_started m ρ c ha]
  exact ring_send m ρ K c (0, u, 0) (1, u, 0) _ _ _ _ rfl (Fin.ext hn) hS hR fullShare.left (acc m ρ 0 c u) (credit_slot u 1)
    (dst_ring c u 0) (Entails.of_eq (pay_send m ρ c u 0).symm) (fill_ring m ρ c u 0)

/-- The first half of a ring step that is not the last: the partial sum of the previous device arrives, and the device
    adds its block of x. -/
theorem ring_sum {α : Type} {Q : α → sProp 𝕄} (c : Dev nD) (u : Fin 4) (s : Fin 2) (a b : ℕ) (hb : recvs[b]? = some (1, u, s.castSucc))
    (h : ∀ j ∈ seq.drop a, lev (1, u, s.castSucc) < lev j)
    {semW : DmaSem sig} (hW : semW = semOf (1, u, s.castSucc))
    {spw : Space} {srcW : Memref sig .tc spw S128x128 .f32} {dstW : Memref sig .tc .vmem S128x128 .f32} (hNW : dstW.view.dmaCredit = N)
    {hsW : srcW.view.WordExact} {hdW : dstW.view.WordExact}
    {offx : Fin 3 → ℕ} (hx : offx = xOff c u (s.val + 1)) {offr : Fin 4 → ℕ} (hr : offr = ![u.val, s.castSucc.succ.val, 0, 0])
    {hbx : ∀ a, offx a + S1x128x128.size a ≤ S1x512x2048.size a} {hbr : ∀ a, offr a + S1x1x128x128.size a ≤ S4x4x128x128.size a}
    {pay : Vec F S1x128x128 .f32 → Vec F S1x1x128x128 .f32 → Vec F S1x1x128x128 .f32}
    (hpay : ∀ a b, shapeCast S128x128 (pay a b) shapeCasts_S1x1x128x128_S128x128 = sumOf a b)
    {h1 : (xM : Memref sig .tc .vmem S1x512x2048 .f32).view.LoadsAt (Rect.unit (s := S1x512x2048) offx S1x128x128.size hbx).toLoadRect}
    {h2 h3 : (rM : Memref sig .tc .vmem S4x4x128x128 .f32).view.LoadsAt (Rect.unit (s := S4x4x128x128) offr S1x1x128x128.size hbr).toLoadRect}
    {h4 : ((rM : Memref sig .tc .vmem S4x4x128x128 .f32).access (Rect.unit (s := S4x4x128x128) offr S1x1x128x128.size hbr)).Stores Finset.univ}
    {h5 : (Finset.univ : Finset (Rect.unit (s := S4x4x128x128) offr S1x1x128x128.size hbr).shape.Idx) = Finset.univ ∨ ∀ a, (Rect.unit (s := S4x4x128x128) offr S1x1x128x128.size hbr).stride a = 1}
    {k : PUnit → Prog (TpuEff nD τ sig (Elt F) Λ₀ .tc) α} :
    iprop(env m ρ K ∗ stage m ρ c a b)
      ⊢ iprop(((held c (slot u s.castSucc.succ) fullShare (acc m ρ (s.val + 1) c u) ∗ stage m ρ c a (b + 1)) -∗ run c (k ⟨⟩) Q)
          -∗ run c (.op (.waitDma2 semW srcW dstW hsW hdW) fun _ =>
              .op (.load xM (Rect.unit (s := S1x512x2048) offx S1x128x128.size hbx).toLoadRect h1) fun a =>
              .op (.load rM (Rect.unit (s := S4x4x128x128) offr S1x1x128x128.size hbr).toLoadRect h2) fun b =>
              .op (.load rM (Rect.unit (s := S4x4x128x128) offr S1x1x128x128.size hbr).toLoadRect h3) fun _ =>
              .op (.store rM (Rect.unit (s := S4x4x128x128) offr S1x1x128x128.size hbr) (pay a b) Finset.univ h4 h5) k) Q) := by
  rw [stage_rem m ρ c hb, stage_waited m ρ c hb]
  iintro ⟨#He, Hr⟩ Hk
  iapply (ring_wait m ρ K c u s.castSucc _ _ _ _ h hW hNW) $$ [Hr]
  · isplitr <;> iassumption
  iintro ⟨Hs, Hr⟩
  unfold ring
  icases Hr with ⟨Ht, Hp, Hrem, Hz, Ho, Hx⟩
  iapply (wp_add m ρ c u s.castSucc.succ s.castSucc.val hx hr hpay) $$ [Hx Hs]
  · isplitl [Hx] <;> iassumption
  iintro ⟨Hx, Hs⟩
  iapply Hk
  isplitl [Hs]; · iexact Hs
  isplitl [Ht]; · iexact Ht
  isplitl [Hp]; · iexact Hp
  isplitl [Hrem]; · iexact Hrem
  isplitl [Hz]; · iexact Hz
  isplitl [Ho] <;> iassumption

/-- The second half: the sum is sent on. -/
theorem ring_pass {α : Type} {Q : α → sProp 𝕄} (c : Dev nD) (u : Fin 4) (s : Fin 2) (a b : ℕ) (ha : seq[a]? = some (1, u, s.succ))
    {n : Dev nD} (hn : n.val = (nxt c).val) {semS semR : DmaSem sig} (hS : semS = semOf (0, u, s.succ)) (hR : semR = semOf (1, u, s.succ))
    {src dst : Memref sig .tc .vmem S128x128 .f32} (hsrc' : src = slot u s.castSucc.succ) (hdst' : dst = slot u s.succ.succ)
    {hsc : dst.view.ref.isScScratch = false} {hsrc : src.view.WordExact} {hdst : dst.view.WordExact}
    {hsem : DmaTarget.Typed .vmem (.dma semR) (.remote (Dev.tc n : Thread nD τ) dst (.dma semS) hsc)}
    {k : PUnit → Prog (TpuEff nD τ sig (Elt F) Λ₀ .tc) α} :
    iprop(env m ρ K ∗ held c (slot u s.castSucc.succ) fullShare (acc m ρ (s.val + 1) c u) ∗ stage m ρ c a b)
      ⊢ iprop((stage m ρ c (a + 1) b -∗ run c (k ⟨⟩) Q)
          -∗ run c (.op (.enqueueDma src (.remote (Dev.tc n : Thread nD τ) dst (.dma semS) hsc) (.dma semR) hsrc hdst hsem) k) Q) := by
  subst hsrc' hdst'
  rw [stage_todo m ρ c ha, stage_started m ρ c ha]
  exact ring_send m ρ K c (0, u, s.succ) (1, u, s.succ) _ _ _ _ rfl (Fin.ext hn) hS hR fullShare (acc m ρ (s.val + 1) c u) (credit_slot u s.succ.succ)
    (dst_ring c u s.succ) (by rw [pay_send]; fin_cases s <;> exact .rfl) (fill_ring m ρ c u s.succ)

omit [FloatOps F] in
/-- A finished block, held whole, in the three shares lent to the copies. -/
theorem held_thirds (c : Dev nD) (u q : Fin 4) (X : FVec F S128x128 .f32) :
    (held c (oS u q) fullShare X : sProp 𝕄) ⊢ iprop(held c (oS u q) (exSh 0) X ∗ held c (oS u q) (exSh 1) X ∗ held c (oS u q) (exSh 2) X) := by
  iintro H
  ihave H := (owns_halves (c : Thread nD τ) (oS u q) fullShare X).1 $$ H
  icases H with ⟨H0, H⟩
  ihave H := (owns_halves (c : Thread nD τ) (oS u q) fullShare.right X).1 $$ H
  icases H with ⟨H1, H2⟩
  isplitl [H0]; · iexact H0
  isplitl [H1]; · iexact H1
  iexact H2
omit [FloatOps F] in
/-- And whole again. -/
theorem held_whole (c : Dev nD) (u q : Fin 4) (X : FVec F S128x128 .f32) :
    iprop(held c (oS u q) (exSh 0) X ∗ held c (oS u q) (exSh 1) X ∗ held c (oS u q) (exSh 2) X) ⊢ (held c (oS u q) fullShare X : sProp 𝕄) := by
  iintro ⟨H0, H1, H2⟩
  iapply (owns_halves (c : Thread nD τ) (oS u q) fullShare X).2
  isplitl [H0]; · iexact H0
  iapply (owns_halves (c : Thread nD τ) (oS u q) fullShare.right X).2
  isplitl [H1]; · iexact H1
  iexact H2

/-- A finished block is copied to partner `k`. -/
theorem ring_copy {α : Type} {Q : α → sProp 𝕄} (c : Dev nD) (u : Fin 4) (k : Fin 3) (a b : ℕ) (ha : seq[a]? = some (3, u, k)) {n : Dev nD} (hn : n.val = (pr k c).val)
    {semS semR : DmaSem sig} (hS : semS = semOf (2, u, k)) (hR : semR = semOf (3, u, k))
    {off : Fin 2 → ℕ} (ho : off = ![128 * u.val, 128 * (qc c).val]) {hbo : ∀ a, off a + S128x128.size a ≤ S512x512.size a}
    {hsc : ((oM : Memref sig .tc .vmem S512x512 .f32).slice (Rect.unit (s := S512x512) off S128x128.size hbo) (fun _ => rfl)).view.ref.isScScratch = false}
    {hsrc hdst : ((oM : Memref sig .tc .vmem S512x512 .f32).slice (Rect.unit (s := S512x512) off S128x128.size hbo) (fun _ => rfl)).view.WordExact}
    {hsem : DmaTarget.Typed .vmem (.dma semR) (.remote (Dev.tc n : Thread nD τ) ((oM : Memref sig .tc .vmem S512x512 .f32).slice (Rect.unit (s := S512x512) off S128x128.size hbo) (fun _ => rfl)) (.dma semS) hsc)}
    {f : PUnit → Prog (TpuEff nD τ sig (Elt F) Λ₀ .tc) α} :
    iprop(env m ρ K ∗ held c (oS u (qc c)) (exSh k) (acc m ρ 3 c u) ∗ stage m ρ c a b)
      ⊢ iprop((stage m ρ c (a + 1) b -∗ run c (f ⟨⟩) Q)
          -∗ run c (.op (.enqueueDma ((oM : Memref sig .tc .vmem S512x512 .f32).slice (Rect.unit (s := S512x512) off S128x128.size hbo) (fun _ => rfl))
              (.remote (Dev.tc n : Thread nD τ) ((oM : Memref sig .tc .vmem S512x512 .f32).slice (Rect.unit (s := S512x512) off S128x128.size hbo) (fun _ => rfl)) (.dma semS) hsc) (.dma semR) hsrc hdst hsem) f) Q) := by
  subst ho
  rw [stage_todo m ρ c ha, stage_started m ρ c ha]
  exact ring_send m ρ K c (2, u, k) (3, u, k) _ _ _ _ rfl (Fin.ext hn) hS hR (exSh k) (acc m ρ 3 c u) (credit_out u (qc c))
    (dst_pr c u k) (Entails.of_eq (pay_copy m ρ c u k).symm) (fill_pr m ρ c u k)

/-- The last ring step: the block is finished, stored in the result, and lent in three shares to its copies. -/
theorem ring_last {α : Type} {Q : α → sProp 𝕄} (c : Dev nD) (u : Fin 4) (a b : ℕ) (hb : recvs[b]? = some (1, u, 2))
    (h : ∀ j ∈ seq.drop a, lev (1, u, 2) < lev j)
    {semW : DmaSem sig} (hW : semW = semOf (1, u, 2))
    {spw : Space} {srcW : Memref sig .tc spw S128x128 .f32} {dstW : Memref sig .tc .vmem S128x128 .f32} (hNW : dstW.view.dmaCredit = N)
    {hsW : srcW.view.WordExact} {hdW : dstW.view.WordExact}
    {offx : Fin 3 → ℕ} (hx : offx = xOff c u 3) {offr : Fin 4 → ℕ} (hr : offr = ![u.val, 3, 0, 0])
    {offo : Fin 2 → ℕ} (ho : offo = ![128 * u.val, 128 * (qc c).val])
    {hbx : ∀ a, offx a + S1x128x128.size a ≤ S1x512x2048.size a} {hbr : ∀ a, offr a + S1x1x128x128.size a ≤ S4x4x128x128.size a}
    {hbo : ∀ a, offo a + S128x128.size a ≤ S512x512.size a}
    {pay : Vec F S1x128x128 .f32 → Vec F S1x1x128x128 .f32 → Vec F S128x128 .f32} (hpay : ∀ a b, pay a b = sumOf a b)
    {h1 : (xM : Memref sig .tc .vmem S1x512x2048 .f32).view.LoadsAt (Rect.unit (s := S1x512x2048) offx S1x128x128.size hbx).toLoadRect}
    {h2 : (rM : Memref sig .tc .vmem S4x4x128x128 .f32).view.LoadsAt (Rect.unit (s := S4x4x128x128) offr S1x1x128x128.size hbr).toLoadRect}
    {h3 : (oM : Memref sig .tc .vmem S512x512 .f32).view.LoadsAt (Rect.unit (s := S512x512) offo S128x128.size hbo).toLoadRect}
    {h4 : ((oM : Memref sig .tc .vmem S512x512 .f32).access (Rect.unit (s := S512x512) offo S128x128.size hbo)).Stores Finset.univ}
    {h5 : (Finset.univ : Finset (Rect.unit (s := S512x512) offo S128x128.size hbo).shape.Idx) = Finset.univ ∨ ∀ a, (Rect.unit (s := S512x512) offo S128x128.size hbo).stride a = 1}
    {k : PUnit → Prog (TpuEff nD τ sig (Elt F) Λ₀ .tc) α} :
    iprop(env m ρ K ∗ free c (oS u (qc c)) ∗ stage m ρ c a b)
      ⊢ iprop(((free c (slot u 3) ∗ held c (oS u (qc c)) (exSh 0) (acc m ρ 3 c u) ∗ held c (oS u (qc c)) (exSh 1) (acc m ρ 3 c u)
              ∗ held c (oS u (qc c)) (exSh 2) (acc m ρ 3 c u) ∗ stage m ρ c a (b + 1)) -∗ run c (k ⟨⟩) Q)
          -∗ run c (.op (.waitDma2 semW srcW dstW hsW hdW) fun _ =>
              .op (.load xM (Rect.unit (s := S1x512x2048) offx S1x128x128.size hbx).toLoadRect h1) fun a =>
              .op (.load rM (Rect.unit (s := S4x4x128x128) offr S1x1x128x128.size hbr).toLoadRect h2) fun b =>
              .op (.load oM (Rect.unit (s := S512x512) offo S128x128.size hbo).toLoadRect h3) fun _ =>
              .op (.store oM (Rect.unit (s := S512x512) offo S128x128.size hbo) (pay a b) Finset.univ h4 h5) k) Q) := by
  rw [stage_rem m ρ c hb, stage_waited m ρ c hb]
  iintro ⟨#He, Hb, Hr⟩ Hk
  iapply (ring_wait m ρ K c u 2 _ _ _ _ h hW hNW) $$ [Hr]
  · isplitr <;> iassumption
  iintro ⟨Hs, Hr⟩
  unfold ring
  icases Hr with ⟨Ht, Hp, Hrem, Hz, Ho, Hx⟩
  iapply (wp_add_out m ρ c u 3 (qc c) 2 hx hr ho hpay) $$ [Hx Hs Hb]
  · isplitl [Hx]; · iexact Hx
    isplitl [Hs]; · iexact Hs
    iexact Hb
  iintro ⟨Hx, Hs, Hb⟩
  ihave Hb := (held_thirds c u (qc c) (acc m ρ (2 + 1) c u)) $$ Hb
  icases Hb with ⟨H0, H1, H2⟩
  iapply Hk
  isplitl [Hs]; · iexact Hs
  isplitl [H0]; · iexact H0
  isplitl [H1]; · iexact H1
  isplitl [H2]; · iexact H2
  isplitl [Ht]; · iexact Ht
  isplitl [Hp]; · iexact Hp
  isplitl [Hrem]; · iexact Hrem
  isplitl [Hz]; · iexact Hz
  isplitl [Ho] <;> iassumption

end Cert.RingProof
-- ==== Proof.Parts.lean ====
/-
The parts of the kernel's program text, one rule each: what the ledger is before and after, for any words passed along
and any continuation.
-/
module

public import proofs.«01_k».proof.Proof.Stretch
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Ci → ℕ)

/-- A part of the program text, on the kernel's own buffers and semaphores. -/
abbrev on {R : Type 1} (p : (arg0 : Memref sig .tc .vmem S1x512x2048 .f32) → arg0.IsWhole → (arg1 : Memref sig .tc .vmem S512x512 .f32) → arg1.IsWhole
    → (arg2 : Memref sig .tc .vmem S4x4x128x128 .f32) → arg2.IsWhole → DmaSems sig S4x3 → DmaSems sig S4x3 → DmaSems sig S3x4 → DmaSems sig S3x4 → R) : R :=
  p (Memref.whole cc0_stg0_0) (Memref.isWhole_whole _) (Memref.whole cc0_stg1_0) (Memref.isWhole_whole _)
    (Memref.whole cc0_scratch0) (Memref.isWhole_whole _) cc0_scratch1 cc0_scratch2 cc0_scratch3 cc0_scratch4

/-- The rule of a stretch `e` of the program: with any continuation, it takes the ledger from `P` to `P'`. -/
def takes (c : Dev nD) (P P' : sProp 𝕄) {R : Type} (e : Prog (TpuEff nD τ sig (Elt F) Λ₀ .tc) R) : Prop :=
  ∀ {α : Type} {Q : α → sProp 𝕄} (k : R → Prog (TpuEff nD τ sig (Elt F) Λ₀ .tc) α),
    iprop(env m ρ K ∗ P) ⊢ iprop((∀ r, P' -∗ run c (k r) Q) -∗ run c (e >>= k) Q)

/-! ## The chains are started -/

/-- Chain 0 is started from its block of x. -/
theorem part4 (c : Dev nD) (w1 w2 w3 w4 w5 w6 : BitVec 32) (w7 w8 w9 : BitVec 1) :
    takes m ρ K c iprop(held c (xS c 0 0) fullShare.left (acc m ρ 0 c 0) ∗ stage m ρ c 0 0) (stage m ρ c 1 0)
      (on k0_part4 c w1 w2 w3 w4 w5 w6 w7 w8 w9) := by
  intro α Q k
  rw [k0_part4_eq_skeleton]; unfold k0_part4_skel
  simp only [Prog.lift, Prog.bind_op, Prog.bind_ret, Prog.pure_eq_ret]
  iintro H Hk
  iapply (ring_start m ρ K c 0 0 0 rfl (dev_ring 0 c) rfl rfl (off_start 0 c) rfl) $$ H
  iapply Hk
/-- Chains 1 and 2 are started from their blocks of x. -/
theorem part5 (c : Dev nD) (w1 w2 w3 w4 w5 : BitVec 32) :
    takes m ρ K c iprop(held c (xS c 1 0) fullShare.left (acc m ρ 0 c 1) ∗ held c (xS c 2 0) fullShare.left (acc m ρ 0 c 2) ∗ stage m ρ c 1 0)
      (stage m ρ c 3 0) (on k0_part5 c w1 w2 w3 w4 w5) := by
  intro α Q k
  rw [k0_part5_eq_skeleton]; unfold k0_part5_skel
  simp only [Prog.lift, Prog.bind_op, Prog.bind_ret, Prog.pure_eq_ret]
  iintro ⟨#He, H1, H2, H⟩ Hk
  iapply (ring_start m ρ K c 1 1 0 rfl (dev_ring 1 c) rfl rfl (off_start 1 c) rfl) $$ [H1 H]
  · isplitr; · iexact He
    isplitl [H1]; · iexact H1
    iexact H
  iintro H
  iapply (ring_start m ρ K c 2 2 0 rfl (dev_ring 2 c) rfl rfl (off_start 2 c) rfl) $$ [H2 H]
  · isplitr; · iexact He
    isplitl [H2] <;> iassumption
  iapply Hk
/-- Chain 3 is started from its block of x. -/
theorem part6 (c : Dev nD) (w1 w2 w3 w4 : BitVec 32) :
    takes m ρ K c iprop(held c (xS c 3 0) fullShare.left (acc m ρ 0 c 3) ∗ stage m ρ c 3 0) (stage m ρ c 4 0) (on k0_part6 c w1 w2 w3 w4) := by
  intro α Q k
  rw [k0_part6_eq_skeleton]; unfold k0_part6_skel
  simp only [Prog.lift, Prog.bind_op, Prog.bind_ret, Prog.pure_eq_ret]
  iintro H Hk
  iapply (ring_start m ρ K c 3 3 0 rfl (dev_ring 3 c) rfl rfl (off_start 3 c) rfl) $$ H
  iapply Hk

/-! ## The first and the second ring step of each chain -/

/-- Chain 0's first block has come; its sum is sent on. -/
theorem part7 (c : Dev nD) (w1 w2 w3 w4 w5 : BitVec 32) : takes m ρ K c (stage m ρ c 4 0) (stage m ρ c 5 1) (on k0_part7 c w1 w2 w3 w4 w5) := by
  intro α Q k
  rw [k0_part7_eq_skeleton]; unfold k0_part7_skel
  simp only [Prog.lift, Prog.bind_op, Prog.bind_ret, Prog.pure_eq_ret]
  iintro ⟨#He, H⟩ Hk
  iapply (ring_sum m ρ K c 0 0 4 0 rfl (by decide) rfl (credit_slot 0 1) (show k0_off5 c 0#32 = _ from off_x 0 0 c) (show ![0, 1, 0, 0] = _ from rfl) (pay := k0_pay1) fun _ _ => shapeCast_shapeCast _ _ _) $$ [H]
  · isplitr <;> iassumption
  iintro ⟨Hs, H⟩
  iapply (ring_pass m ρ K c 0 0 4 1 rfl (dev_ring 4 c) rfl rfl rfl rfl) $$ [Hs H]
  · isplitr; · iexact He
    isplitl [Hs]; · iexact Hs
    iexact H
  iapply Hk
/-- Chain 1's first block has come; its sum is in the slot, not yet sent. -/
theorem part8 (c : Dev nD) (w1 w2 w3 w4 w5 : BitVec 32) : takes m ρ K c (stage m ρ c 5 1)
    iprop(held c (slot 1 1) fullShare (acc m ρ 1 c 1) ∗ stage m ρ c 5 2) (on k0_part8 c w1 w2 w3 w4 w5) := by
  intro α Q k
  rw [k0_part8_eq_skeleton]; unfold k0_part8_skel
  simp only [Prog.lift, Prog.bind_op, Prog.bind_ret, Prog.pure_eq_ret]
  iintro H Hk
  iapply (ring_sum m ρ K c 1 0 5 1 rfl (by decide) rfl (credit_slot 1 1) (show k0_off6 c 0#32 = _ from off_x 1 0 c) (show ![1, 1, 0, 0] = _ from rfl) (pay := k0_pay2) fun _ _ => shapeCast_shapeCast _ _ _) $$ H
  iintro ⟨Hs, H⟩
  iapply Hk
  isplitl [Hs]; · iexact Hs
  iexact H
/-- Chain 1's sum is sent on; chain 2's block has come and its sum is sent on too. -/
theorem part9_10 (c : Dev nD) (w1 w2 w3 w4 w5 w6 w7 w8 w9 : BitVec 32) : takes m ρ K c iprop(held c (slot 1 1) fullShare (acc m ρ 1 c 1) ∗ stage m ρ c 5 2)
    (stage m ρ c 7 3) (on k0_part9 c w1 w2 w3 w4 w5 w6 >>= fun v => on k0_part10 c w7 w8 w9 v) := by
  intro α Q k
  rw [k0_part9_eq_skeleton, k0_part10_eq_skeleton]; unfold k0_part9_skel k0_part10_skel
  simp only [Prog.lift, Prog.bind_op, Prog.bind_ret, Prog.pure_eq_ret]
  iintro ⟨#He, Hs, H⟩ Hk
  iapply (ring_pass m ρ K c 1 0 5 2 rfl (dev_ring 5 c) rfl rfl rfl rfl) $$ [Hs H]
  · isplitr; · iexact He
    isplitl [Hs]; · iexact Hs
    iexact H
  iintro H
  iapply (ring_sum m ρ K c 2 0 6 2 rfl (by decide) rfl (credit_slot 2 1) (show k0_off7 c 0#32 = _ from off_x 2 0 c) (show ![2, 1, 0, 0] = _ from rfl) (pay := fun a b => k0_pay4 (k0_pay3 a b)) fun _ _ => shapeCast_shapeCast _ _ _) $$ [H]
  · isplitr <;> iassumption
  iintro ⟨Hs, H⟩
  iapply (ring_pass m ρ K c 2 0 6 3 rfl (dev_ring 6 c) rfl rfl rfl rfl) $$ [Hs H]
  · isplitr; · iexact He
    isplitl [Hs]; · iexact Hs
    iexact H
  iapply Hk
/-- Chain 3's first block has come; its sum is sent on. -/
theorem part11 (c : Dev nD) (w1 w2 w3 w4 w5 w6 : BitVec 32) : takes m ρ K c (stage m ρ c 7 3) (stage m ρ c 8 4) (on k0_part11 c w1 w2 w3 w4 w5 w6) := by
  intro α Q k
  rw [k0_part11_eq_skeleton]; unfold k0_part11_skel
  simp only [Prog.lift, Prog.bind_op, Prog.bind_ret, Prog.pure_eq_ret]
  iintro ⟨#He, H⟩ Hk
  iapply (ring_sum m ρ K c 3 0 7 3 rfl (by decide) rfl (credit_slot 3 1) (show k0_off8 c 0#32 = _ from off_x 3 0 c) (show ![3, 1, 0, 0] = _ from rfl) (pay := k0_pay5) fun _ _ => shapeCast_shapeCast _ _ _) $$ [H]
  · isplitr <;> iassumption
  iintro ⟨Hs, H⟩
  iapply (ring_pass m ρ K c 3 0 7 4 rfl (dev_ring 7 c) rfl rfl rfl rfl) $$ [Hs H]
  · isplitr; · iexact He
    isplitl [Hs]; · iexact Hs
    iexact H
  iapply Hk
/-- Parts 12 and 13 are one ring step; the first word of part 12 is used later on. -/
theorem part12_13 (c : Dev nD) (w1 w2 w3 w4 w5 w6 w7 w8 : BitVec 32) {α : Type} {Q : α → sProp 𝕄}
    (k : (Σ' (v : BitVec 32), FVec F S128x128 .f32) → (Σ' (v : BitVec 32), BitVec 32) → Prog (TpuEff nD τ sig (Elt F) Λ₀ .tc) α)
    (hk : ∀ w v v', k ⟨w, v⟩ = k ⟨w, v'⟩) :
    iprop(env m ρ K ∗ stage m ρ c 8 4) ⊢ iprop((∀ w r', stage m ρ c 9 5 -∗ run c (k ⟨w, acc m ρ 0 c 0⟩ r') Q)
      -∗ run c (on k0_part12 c w1 w2 w3 w4 w5 >>= fun r => on k0_part13 c w6 w7 w8 r.2 >>= k r) Q) := by
  obtain ⟨k, rfl⟩ : ∃ k', k = fun r => k' r.1 := ⟨fun w => k ⟨w, acc m ρ 0 c 0⟩, funext fun r => hk _ _ _⟩
  rw [k0_part12_eq_skeleton, k0_part13_eq_skeleton]; unfold k0_part12_skel k0_part13_skel
  simp only [Prog.lift, Prog.bind_op, Prog.bind_ret, Prog.pure_eq_ret]
  iintro ⟨#He, H⟩ Hk
  iapply (ring_sum m ρ K c 0 1 8 4 rfl (by decide) rfl (credit_slot 0 2) (show k0_off5 c 1#32 = _ from off_x 0 1 c) (show ![0, 2, 0, 0] = _ from rfl) (pay := fun a b => k0_pay7 (k0_pay6 a) b) fun _ _ => shapeCast_shapeCast _ _ _) $$ [H]
  · isplitr <;> iassumption
  iintro ⟨Hs, H⟩
  iapply (ring_pass m ρ K c 0 1 8 5 rfl (dev_ring 8 c) rfl rfl rfl rfl) $$ [Hs H]
  · isplitr; · iexact He
    isplitl [Hs]; · iexact Hs
    iexact H
  iapply Hk
/-- Chain 1's second block has come; its sum is in the slot, not yet sent. -/
theorem part14 (c : Dev nD) (w1 w2 w3 w4 w5 w6 w7 : BitVec 32) : takes m ρ K c (stage m ρ c 9 5)
    iprop(held c (slot 1 2) fullShare (acc m ρ 2 c 1) ∗ stage m ρ c 9 6) (on k0_part14 c w1 w2 w3 w4 w5 w6 w7) := by
  intro α Q k
  rw [k0_part14_eq_skeleton]; unfold k0_part14_skel
  simp only [Prog.lift, Prog.bind_op, Prog.bind_ret, Prog.pure_eq_ret]
  iintro H Hk
  iapply (ring_sum m ρ K c 1 1 9 5 rfl (by decide) rfl (credit_slot 1 2) (show k0_off6 c 1#32 = _ from off_x 1 1 c) (show ![1, 2, 0, 0] = _ from rfl) (pay := k0_pay8) fun _ _ => shapeCast_shapeCast _ _ _) $$ H
  iintro ⟨Hs, H⟩
  iapply Hk
  isplitl [Hs]; · iexact Hs
  iexact H
/-- Chain 1's sum is sent on; chain 2's second block has come and its sum is in the slot. -/
theorem part15 (c : Dev nD) (w1 w2 w3 w4 w5 : BitVec 32) : takes m ρ K c iprop(held c (slot 1 2) fullShare (acc m ρ 2 c 1) ∗ stage m ρ c 9 6)
    iprop(held c (slot 2 2) fullShare (acc m ρ 2 c 2) ∗ stage m ρ c 10 7) (on k0_part15 c w1 w2 w3 w4 w5) := by
  intro α Q k
  rw [k0_part15_eq_skeleton]; unfold k0_part15_skel
  simp only [Prog.lift, Prog.bind_op, Prog.bind_ret, Prog.pure_eq_ret]
  iintro ⟨#He, Hs, H⟩ Hk
  iapply (ring_pass m ρ K c 1 1 9 6 rfl (dev_ring 9 c) rfl rfl rfl rfl) $$ [Hs H]
  · isplitr; · iexact He
    isplitl [Hs]; · iexact Hs
    iexact H
  iintro H
  iapply (ring_sum m ρ K c 2 1 10 6 rfl (by decide) rfl (credit_slot 2 2) (show k0_off7 c 1#32 = _ from off_x 2 1 c) (show ![2, 2, 0, 0] = _ from rfl) (pay := k0_pay9) fun _ _ => shapeCast_shapeCast _ _ _) $$ [H]
  · isplitr <;> iassumption
  iintro ⟨Hs, H⟩
  iapply Hk
  isplitl [Hs]; · iexact Hs
  iexact H
/-- Chain 2's sum is sent on; chain 3's second block has come and its sum is sent on too. -/
theorem part16_17 (c : Dev nD) (w1 w2 w3 w4 w5 w6 w7 w8 w9 : BitVec 32) : takes m ρ K c iprop(held c (slot 2 2) fullShare (acc m ρ 2 c 2) ∗ stage m ρ c 10 7)
    (stage m ρ c 12 8) (on k0_part16 c w1 w2 w3 w4 >>= fun v => on k0_part17 c w5 w6 w7 w8 w9 v) := by
  intro α Q k
  rw [k0_part16_eq_skeleton, k0_part17_eq_skeleton]; unfold k0_part16_skel k0_part17_skel
  simp only [Prog.lift, Prog.bind_op, Prog.bind_ret, Prog.pure_eq_ret]
  iintro ⟨#He, Hs, H⟩ Hk
  iapply (ring_pass m ρ K c 2 1 10 7 rfl (dev_ring 10 c) rfl rfl rfl rfl) $$ [Hs H]
  · isplitr; · iexact He
    isplitl [Hs]; · iexact Hs
    iexact H
  iintro H
  iapply (ring_sum m ρ K c 3 1 11 7 rfl (by decide) rfl (credit_slot 3 2) (show k0_off8 c 1#32 = _ from off_x 3 1 c) (show ![3, 2, 0, 0] = _ from rfl) (pay := k0_pay10) fun _ _ => shapeCast_shapeCast _ _ _) $$ [H]
  · isplitr <;> iassumption
  iintro ⟨Hs, H⟩
  iapply (ring_pass m ρ K c 3 1 11 8 rfl (dev_ring 11 c) rfl rfl rfl rfl) $$ [Hs H]
  · isplitr; · iexact He
    isplitl [Hs]; · iexact Hs
    iexact H
  iapply Hk

/-! ## The last ring step of each chain, and its copies -/

/-- Parts 18 and 19 are the last ring step of the first chain and two of its copies; the first word of part 18 is used later on. -/
theorem part18_19 (c : Dev nD) (w1 w2 w3 w4 w5 w6 w7 w8 w9 w10 w11 w12 w13 : BitVec 32) {α : Type} {Q : α → sProp 𝕄}
    (k : (Σ' (v : BitVec 32), FVec F S128x128 .f32) → (Σ' (v : BitVec 32), BitVec 32) → Prog (TpuEff nD τ sig (Elt F) Λ₀ .tc) α)
    (hk : ∀ w v v', k ⟨w, v⟩ = k ⟨w, v'⟩) :
    iprop(env m ρ K ∗ free c (oS 0 (qc c)) ∗ stage m ρ c 12 8)
      ⊢ iprop((∀ w r', (free c (slot 0 3) ∗ held c (oS 0 (qc c)) (exSh 2) (acc m ρ 3 c 0) ∗ stage m ρ c 14 9) -∗ run c (k ⟨w, acc m ρ 0 c 0⟩ r') Q)
      -∗ run c (on k0_part18 c w1 w2 w3 w4 w5 w6 w7 >>= fun r => on k0_part19 c w8 w9 w10 w11 w12 w13 r.2 >>= k r) Q) := by
  obtain ⟨k, rfl⟩ : ∃ k', k = fun r => k' r.1 := ⟨fun w => k ⟨w, acc m ρ 0 c 0⟩, funext fun r => hk _ _ _⟩
  rw [k0_part18_eq_skeleton, k0_part19_eq_skeleton]; unfold k0_part18_skel k0_part19_skel
  simp only [Prog.lift, Prog.bind_op, Prog.bind_ret, Prog.pure_eq_ret]
  iintro ⟨#He, Hf, H⟩ Hk
  iapply (ring_last m ρ K c 0 12 8 rfl (by decide) rfl (credit_slot 0 3) (show k0_off5 c 2#32 = _ from off_x 0 2 c) (show ![0, 3, 0, 0] = _ from rfl)
    (show k0_off9 c = _ from off_out 0 c) (pay := k0_pay11) fun _ _ => rfl) $$ [Hf H]
  · isplitr; · iexact He
    isplitl [Hf]; · iexact Hf
    iexact H
  iintro ⟨Hf, H0, H1, H2, H⟩
  iapply (ring_copy m ρ K c 0 0 12 9 rfl (dev_pr 0 0 c) rfl rfl (show k0_off10 c = _ from off_copy 0 c)) $$ [H0 H]
  · isplitr; · iexact He
    isplitl [H0]; · iexact H0
    iexact H
  iintro H
  iapply (ring_copy m ρ K c 0 1 13 9 rfl (dev_pr 0 1 c) rfl rfl (show k0_off10 c = _ from off_copy 0 c)) $$ [H1 H]
  · isplitr; · iexact He
    isplitl [H1]; · iexact H1
    iexact H
  iintro H
  iapply Hk
  isplitl [Hf]; · iexact Hf
  isplitl [H2]; · iexact H2
  iexact H
/-- Chain 0's finished block goes to the last partner; chain 1 is finished, its block held in three shares. -/
theorem part20 (c : Dev nD) (w1 w2 w3 w4 w5 w6 w7 w8 : BitVec 32) : takes m ρ K c
    iprop(held c (oS 0 (qc c)) (exSh 2) (acc m ρ 3 c 0) ∗ free c (oS 1 (qc c)) ∗ stage m ρ c 14 9)
    iprop(free c (slot 1 3) ∗ held c (oS 1 (qc c)) (exSh 0) (acc m ρ 3 c 1) ∗ held c (oS 1 (qc c)) (exSh 1) (acc m ρ 3 c 1)
      ∗ held c (oS 1 (qc c)) (exSh 2) (acc m ρ 3 c 1) ∗ stage m ρ c 15 10) (on k0_part20 c w1 w2 w3 w4 w5 w6 w7 w8) := by
  intro α Q k
  rw [k0_part20_eq_skeleton]; unfold k0_part20_skel
  simp only [Prog.lift, Prog.bind_op, Prog.bind_ret, Prog.pure_eq_ret]
  iintro ⟨#He, H2, Hf, H⟩ Hk
  iapply (ring_copy m ρ K c 0 2 14 9 rfl (dev_pr 0 2 c) rfl rfl (show k0_off10 c = _ from off_copy 0 c)) $$ [H2 H]
  · isplitr; · iexact He
    isplitl [H2]; · iexact H2
    iexact H
  iintro H
  iapply (ring_last m ρ K c 1 15 9 rfl (by decide) rfl (credit_slot 1 3) (show k0_off6 c 2#32 = _ from off_x 1 2 c) (show ![1, 3, 0, 0] = _ from rfl)
    (show k0_off11 c = _ from off_out 1 c) (pay := k0_pay12) fun _ _ => rfl) $$ [Hf H]
  · isplitr; · iexact He
    isplitl [Hf]; · iexact Hf
    iexact H
  iapply Hk
/-- Chain 1's finished block goes to the first two partners. -/
theorem part21 (c : Dev nD) (w1 w2 w3 w4 w5 w6 : BitVec 32) : takes m ρ K c
    iprop(held c (oS 1 (qc c)) (exSh 0) (acc m ρ 3 c 1) ∗ held c (oS 1 (qc c)) (exSh 1) (acc m ρ 3 c 1) ∗ stage m ρ c 15 10) (stage m ρ c 17 10)
    (on k0_part21 c w1 w2 w3 w4 w5 w6) := by
  intro α Q k
  rw [k0_part21_eq_skeleton]; unfold k0_part21_skel
  simp only [Prog.lift, Prog.bind_op, Prog.bind_ret, Prog.pure_eq_ret]
  iintro ⟨#He, H0, H1, H⟩ Hk
  iapply (ring_copy m ρ K c 1 0 15 10 rfl (dev_pr 1 0 c) rfl rfl (show k0_off12 c = _ from off_copy 1 c)) $$ [H0 H]
  · isplitr; · iexact He
    isplitl [H0]; · iexact H0
    iexact H
  iintro H
  iapply (ring_copy m ρ K c 1 1 16 10 rfl (dev_pr 1 1 c) rfl rfl (show k0_off12 c = _ from off_copy 1 c)) $$ [H1 H]
  · isplitr; · iexact He
    isplitl [H1]; · iexact H1
    iexact H
  iapply Hk
/-- Chain 1's finished block goes to the last partner; chain 2 is finished, its block held in three shares. -/
theorem part22 (c : Dev nD) (w1 w2 w3 w4 w5 : BitVec 32) : takes m ρ K c
    iprop(held c (oS 1 (qc c)) (exSh 2) (acc m ρ 3 c 1) ∗ free c (oS 2 (qc c)) ∗ stage m ρ c 17 10)
    iprop(free c (slot 2 3) ∗ held c (oS 2 (qc c)) (exSh 0) (acc m ρ 3 c 2) ∗ held c (oS 2 (qc c)) (exSh 1) (acc m ρ 3 c 2)
      ∗ held c (oS 2 (qc c)) (exSh 2) (acc m ρ 3 c 2) ∗ stage m ρ c 18 11) (on k0_part22 c w1 w2 w3 w4 w5) := by
  intro α Q k
  rw [k0_part22_eq_skeleton]; unfold k0_part22_skel
  simp only [Prog.lift, Prog.bind_op, Prog.bind_ret, Prog.pure_eq_ret]
  iintro ⟨#He, H2, Hf, H⟩ Hk
  iapply (ring_copy m ρ K c 1 2 17 10 rfl (dev_pr 1 2 c) rfl rfl (show k0_off12 c = _ from off_copy 1 c)) $$ [H2 H]
  · isplitr; · iexact He
    isplitl [H2]; · iexact H2
    iexact H
  iintro H
  iapply (ring_last m ρ K c 2 18 10 rfl (by decide) rfl (credit_slot 2 3) (show k0_off7 c 2#32 = _ from off_x 2 2 c) (show ![2, 3, 0, 0] = _ from rfl)
    (show k0_off13 c = _ from off_out 2 c) (pay := k0_pay13) fun _ _ => rfl) $$ [Hf H]
  · isplitr; · iexact He
    isplitl [Hf]; · iexact Hf
    iexact H
  iapply Hk
/-- Chain 2's finished block goes to the first two partners. -/
theorem part23 (c : Dev nD) (w1 w2 w3 w4 w5 w6 : BitVec 32) : takes m ρ K c
    iprop(held c (oS 2 (qc c)) (exSh 0) (acc m ρ 3 c 2) ∗ held c (oS 2 (qc c)) (exSh 1) (acc m ρ 3 c 2) ∗ stage m ρ c 18 11) (stage m ρ c 20 11)
    (on k0_part23 c w1 w2 w3 w4 w5 w6) := by
  intro α Q k
  rw [k0_part23_eq_skeleton]; unfold k0_part23_skel
  simp only [Prog.lift, Prog.bind_op, Prog.bind_ret, Prog.pure_eq_ret]
  iintro ⟨#He, H0, H1, H⟩ Hk
  iapply (ring_copy m ρ K c 2 0 18 11 rfl (dev_pr 2 0 c) rfl rfl (show k0_off14 c = _ from off_copy 2 c)) $$ [H0 H]
  · isplitr; · iexact He
    isplitl [H0]; · iexact H0
    iexact H
  iintro H
  iapply (ring_copy m ρ K c 2 1 19 11 rfl (dev_pr 2 1 c) rfl rfl (show k0_off14 c = _ from off_copy 2 c)) $$ [H1 H]
  · isplitr; · iexact He
    isplitl [H1]; · iexact H1
    iexact H
  iapply Hk
/-- Chain 2's finished block goes to the last partner; chain 3 is finished, its block held in three shares. -/
theorem part24 (c : Dev nD) (w1 w2 w3 w4 w5 : BitVec 32) : takes m ρ K c
    iprop(held c (oS 2 (qc c)) (exSh 2) (acc m ρ 3 c 2) ∗ free c (oS 3 (qc c)) ∗ stage m ρ c 20 11)
    iprop(free c (slot 3 3) ∗ held c (oS 3 (qc c)) (exSh 0) (acc m ρ 3 c 3) ∗ held c (oS 3 (qc c)) (exSh 1) (acc m ρ 3 c 3)
      ∗ held c (oS 3 (qc c)) (exSh 2) (acc m ρ 3 c 3) ∗ stage m ρ c 21 12) (on k0_part24 c w1 w2 w3 w4 w5) := by
  intro α Q k
  rw [k0_part24_eq_skeleton]; unfold k0_part24_skel
  simp only [Prog.lift, Prog.bind_op, Prog.bind_ret, Prog.pure_eq_ret]
  iintro ⟨#He, H2, Hf, H⟩ Hk
  iapply (ring_copy m ρ K c 2 2 20 11 rfl (dev_pr 2 2 c) rfl rfl (show k0_off14 c = _ from off_copy 2 c)) $$ [H2 H]
  · isplitr; · iexact He
    isplitl [H2]; · iexact H2
    iexact H
  iintro H
  iapply (ring_last m ρ K c 3 21 11 rfl (by decide) rfl (credit_slot 3 3) (show k0_off8 c 2#32 = _ from off_x 3 2 c) (show ![3, 3, 0, 0] = _ from rfl)
    (show k0_off15 c = _ from off_out 3 c) (pay := k0_pay14) fun _ _ => rfl) $$ [Hf H]
  · isplitr; · iexact He
    isplitl [Hf]; · iexact Hf
    iexact H
  iapply Hk
/-- Chain 3's finished block goes to the first two partners. -/
theorem part25 (c : Dev nD) (w1 w2 w3 w4 w5 w6 w7 : BitVec 32) : takes m ρ K c
    iprop(held c (oS 3 (qc c)) (exSh 0) (acc m ρ 3 c 3) ∗ held c (oS 3 (qc c)) (exSh 1) (acc m ρ 3 c 3) ∗ stage m ρ c 21 12) (stage m ρ c 23 12)
    (on k0_part25 c w1 w2 w3 w4 w5 w6 w7) := by
  intro α Q k
  rw [k0_part25_eq_skeleton]; unfold k0_part25_skel
  simp only [Prog.lift, Prog.bind_op, Prog.bind_ret, Prog.pure_eq_ret]
  iintro ⟨#He, H0, H1, H⟩ Hk
  iapply (ring_copy m ρ K c 3 0 21 12 rfl (dev_pr 3 0 c) rfl rfl (show k0_off16 c = _ from off_copy 3 c)) $$ [H0 H]
  · isplitr; · iexact He
    isplitl [H0]; · iexact H0
    iexact H
  iintro H
  iapply (ring_copy m ρ K c 3 1 22 12 rfl (dev_pr 3 1 c) rfl rfl (show k0_off16 c = _ from off_copy 3 c)) $$ [H1 H]
  · isplitr; · iexact He
    isplitl [H1]; · iexact H1
    iexact H
  iapply Hk

/-! ## The last waits -/

/-- Chain 3's finished block goes to the last partner; the first two of the last waits are done. -/
theorem part26 (c : Dev nD) (w1 w2 w3 : BitVec 32) : takes m ρ K c
    iprop(held c (oS 3 (qc c)) (exSh 2) (acc m ρ 3 c 3) ∗ stage m ρ c 23 12)
    iprop(last m ρ c 2 ∗ kind (fun i => semVal (cell c i) 0) 1 ∗ xHalf m ρ c) (on k0_part26 c w1 w2 w3) := by
  intro α Q k
  rw [k0_part26_eq_skeleton]; unfold k0_part26_skel
  simp only [Prog.lift, Prog.bind_op, Prog.bind_ret, Prog.pure_eq_ret]
  iintro ⟨#He, H2, H⟩ Hk
  iapply (ring_copy m ρ K c 3 2 23 12 rfl (dev_pr 3 2 c) rfl rfl (show k0_off16 c = _ from off_copy 3 c)) $$ [H2 H]
  · isplitr; · iexact He
    isplitl [H2]; · iexact H2
    iexact H
  iintro H
  ihave H := (stage_last m ρ c) $$ H
  icases H with ⟨H, Hz, Hx⟩
  iapply (last_wait m ρ K c 0 (3, 0, 0) rfl rfl (credit_oslice _)) $$ [H]
  · isplitr <;> iassumption
  iintro H
  iapply (last_wait m ρ K c 1 (3, 1, 0) rfl rfl (credit_oslice _)) $$ [H]
  · isplitr <;> iassumption
  iintro H
  iapply Hk
  isplitl [H]; · iexact H
  isplitl [Hz] <;> iassumption
/-- Of the last waits, those from number 2 up to 5 are done. -/
theorem part27 (c : Dev nD) (w1 w2 w3 w4 w5 : BitVec 32) : takes m ρ K c (last m ρ c 2) (last m ρ c 5) (on k0_part27 c w1 w2 w3 w4 w5) := by
  intro α Q k
  rw [k0_part27_eq_skeleton]; unfold k0_part27_skel
  simp only [Prog.lift, Prog.bind_op, Prog.bind_ret, Prog.pure_eq_ret]
  iintro H Hk
  iapply (last_wait3 m ρ K c 2 (3, 2, 0) (3, 3, 0) (3, 0, 1) rfl rfl rfl rfl rfl rfl (credit_oslice _) (credit_oslice _) (credit_oslice _)) $$ H
  iapply Hk
/-- Of the last waits, those from number 5 up to 8 are done. -/
theorem part28 (c : Dev nD) (w1 w2 w3 w4 w5 w6 : BitVec 32) : takes m ρ K c (last m ρ c 5) (last m ρ c 8) (on k0_part28 c w1 w2 w3 w4 w5 w6) := by
  intro α Q k
  rw [k0_part28_eq_skeleton]; unfold k0_part28_skel
  simp only [Prog.lift, Prog.bind_op, Prog.bind_ret, Prog.pure_eq_ret]
  iintro H Hk
  iapply (last_wait3 m ρ K c 5 (3, 1, 1) (3, 2, 1) (3, 3, 1) rfl rfl rfl rfl rfl rfl (credit_oslice _) (credit_oslice _) (credit_oslice _)) $$ H
  iapply Hk
/-- Of the last waits, those from number 8 up to 11 are done. -/
theorem part29 (c : Dev nD) (w1 w2 w3 w4 w5 : BitVec 32) : takes m ρ K c (last m ρ c 8) (last m ρ c 11) (on k0_part29 c w1 w2 w3 w4 w5) := by
  intro α Q k
  rw [k0_part29_eq_skeleton]; unfold k0_part29_skel
  simp only [Prog.lift, Prog.bind_op, Prog.bind_ret, Prog.pure_eq_ret]
  iintro H Hk
  iapply (last_wait3 m ρ K c 8 (3, 0, 2) (3, 1, 2) (3, 2, 2) rfl rfl rfl rfl rfl rfl (credit_oslice _) (credit_oslice _) (credit_oslice _)) $$ H
  iapply Hk
/-- Of the last waits, those from number 11 up to 14 are done. -/
theorem part30 (c : Dev nD) (w1 w2 w3 w4 : BitVec 32) : takes m ρ K c (last m ρ c 11) (last m ρ c 14) (on k0_part30 c w1 w2 w3 w4) := by
  intro α Q k
  rw [k0_part30_eq_skeleton]; unfold k0_part30_skel
  simp only [Prog.lift, Prog.bind_op, Prog.bind_ret, Prog.pure_eq_ret]
  iintro H Hk
  iapply (last_wait3 m ρ K c 11 (3, 3, 2) (0, 0, 0) (0, 0, 1) rfl rfl rfl rfl rfl rfl (credit_oslice _) (credit_xslice _) (credit_slot 0 1)) $$ H
  iapply Hk
/-- Of the last waits, those from number 14 up to 17 are done. -/
theorem part31 (c : Dev nD) : takes m ρ K c (last m ρ c 14) (last m ρ c 17) (on k0_part31 c) := by
  intro α Q k
  rw [k0_part31_eq_skeleton]; unfold k0_part31_skel
  simp only [Prog.lift, Prog.bind_op, Prog.bind_ret, Prog.pure_eq_ret]
  iintro H Hk
  iapply (last_wait3 m ρ K c 14 (0, 0, 2) (0, 1, 0) (0, 1, 1) rfl rfl rfl rfl rfl rfl (credit_slot 0 2) (credit_xslice _) (credit_slot 1 1)) $$ H
  iapply Hk
/-- Of the last waits, those from number 17 up to 20 are done. -/
theorem part32 (c : Dev nD) : takes m ρ K c (last m ρ c 17) (last m ρ c 20) (on k0_part32 c) := by
  intro α Q k
  rw [k0_part32_eq_skeleton]; unfold k0_part32_skel
  simp only [Prog.lift, Prog.bind_op, Prog.bind_ret, Prog.pure_eq_ret]
  iintro H Hk
  iapply (last_wait3 m ρ K c 17 (0, 1, 2) (0, 2, 0) (0, 2, 1) rfl rfl rfl rfl rfl rfl (credit_slot 1 2) (credit_xslice _) (credit_slot 2 1)) $$ H
  iapply Hk
/-- Of the last waits, those from number 20 up to 23 are done. -/
theorem part33 (c : Dev nD) : takes m ρ K c (last m ρ c 20) (last m ρ c 23) (on k0_part33 c) := by
  intro α Q k
  rw [k0_part33_eq_skeleton]; unfold k0_part33_skel
  simp only [Prog.lift, Prog.bind_op, Prog.bind_ret, Prog.pure_eq_ret]
  iintro H Hk
  iapply (last_wait3 m ρ K c 20 (0, 2, 2) (0, 3, 0) (0, 3, 1) rfl rfl rfl rfl rfl rfl (credit_slot 2 2) (credit_xslice _) (credit_slot 3 1)) $$ H
  iapply Hk
/-- Of the last waits, those from number 23 up to 28 are done. -/
theorem part34 (c : Dev nD) : takes m ρ K c (last m ρ c 23) (last m ρ c 28) (on k0_part34 c) := by
  intro α Q k
  rw [k0_part34_eq_skeleton]; unfold k0_part34_skel
  simp only [Prog.lift, Prog.bind_op, Prog.bind_ret, Prog.pure_eq_ret]
  iintro ⟨#He, H⟩ Hk
  iapply (last_wait3 m ρ K c 23 (0, 3, 2) (2, 0, 0) (2, 1, 0) rfl rfl rfl rfl rfl rfl (credit_slot 3 2) (credit_oslice _) (credit_oslice _)) $$ [H]
  · isplitr <;> iassumption
  iintro H
  iapply (last_wait m ρ K c 26 (2, 2, 0) rfl rfl (credit_oslice _)) $$ [H]
  · isplitr <;> iassumption
  iintro H
  iapply (last_wait m ρ K c 27 (2, 3, 0) rfl rfl (credit_oslice _)) $$ [H]
  · isplitr <;> iassumption
  iapply Hk
/-- Of the last waits, those from number 28 up to 33 are done. -/
theorem part35 (c : Dev nD) : takes m ρ K c (last m ρ c 28) (last m ρ c 33) (on k0_part35 c) := by
  intro α Q k
  rw [k0_part35_eq_skeleton]; unfold k0_part35_skel
  simp only [Prog.lift, Prog.bind_op, Prog.bind_ret, Prog.pure_eq_ret]
  iintro ⟨#He, H⟩ Hk
  iapply (last_wait3 m ρ K c 28 (2, 0, 1) (2, 1, 1) (2, 2, 1) rfl rfl rfl rfl rfl rfl (credit_oslice _) (credit_oslice _) (credit_oslice _)) $$ [H]
  · isplitr <;> iassumption
  iintro H
  iapply (last_wait m ρ K c 31 (2, 3, 1) rfl rfl (credit_oslice _)) $$ [H]
  · isplitr <;> iassumption
  iintro H
  iapply (last_wait m ρ K c 32 (2, 0, 2) rfl rfl (credit_oslice _)) $$ [H]
  · isplitr <;> iassumption
  iapply Hk

end Cert.RingProof
-- ==== Proof.Body.lean ====
/-
The kernel's run on one device: the barrier, the start of the four chains, the three ring steps, and the last waits.
-/
module

public import proofs.«01_k».proof.Proof.Parts

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Ci → ℕ)

/-! ## The barrier -/

/-- Before the barrier: the signals `ds` to give, each with its duty's token and what it hands over, and what is owed. -/
def bars (c : Dev nD) (ds : List (Fin 5)) : sProp 𝕄 :=
  iprop(sepL (fun d => iprop(dutyTok ER (barCell (btgt d c)) 0 d ∗ barPay (btgt d c) d)) ds ∗ ∃ W, owes (c : Thread nD τ) (owedB c ds) W)

/-- The next signal. -/
theorem bar_signal {α : Type} {Q : α → sProp 𝕄} (c : Dev nD) (d : Fin 5) (ds : List (Fin 5)) {n : Dev nD} (hn : n.val = (btgt d c).val)
    {sem : Sem sig} (hs : sem = barS) {a : ℤ} (ha : a = ((1 : ℕ) : ℤ))
    {k : PUnit → Prog (TpuEff nD τ sig (Elt F) Λ₀ .tc) α} :
    iprop(env m ρ K ∗ bars c (d :: ds))
      ⊢ iprop((bars c ds -∗ run c (k ⟨⟩) Q) -∗ run c (.op (.semSignal ((n : Dev nD), Proc.tc) sem a) k) Q) := by
  obtain rfl : n = btgt d c := Fin.ext hn
  subst hs ha
  unfold bars
  rw [sepL_cons]
  iintro ⟨#He, ⟨⟨Ht, Hp⟩, Hds⟩, ⟨%W, Ho⟩⟩ Hk
  iapply (Rounds.wp_signal 𝒱₀ ER (sched m ρ) (c : Thread nD τ) none (dst := (btgt d c : Thread nD τ)) (κ := K (btgt d c, none))
      (d := d) (by rw [duties_bar]; exact Finset.mem_univ _) (amount_bar m ρ (btgt d c) d) () (owedB c ds) rfl) $$ [Ht Hp Ho]
  · isplitr; · iapply (env_inv m ρ K (btgt d c, none)); iexact He
    isplitl [Ho]; · iexact Ho
    isplitl [Ht]; · iexact Ht
    isplitl [Hp]; · rw [payload_bar]; iexact Hp
    iapply (env_reached m ρ K (btgt d c, none)); iexact He
  iintro Ho
  iapply Hk
  isplitl [Hds]; · iexact Hds
  iexists W; iexact Ho

/-- The wait for the five signals: all they hand over, and the barrier's semaphore at zero. -/
theorem bar_wait {α : Type} {Q : α → sProp 𝕄} (c : Dev nD) {sem : Sem sig} (hs : sem = barS) {a : ℤ} (ha : a = ((5 : ℕ) : ℤ))
    {k : PUnit → Prog (TpuEff nD τ sig (Elt F) Λ₀ .tc) α} :
    iprop(env m ρ K ∗ bars c [] ∗ atPos ER (barCell c) 0 ∅ 0 ∗ cred (tallyAt (barCell c) () 5))
      ⊢ iprop(((owes' c seq ∗ semVal (barCell c) 0 ∗ bigSep Finset.univ (fun d => barPay c d)) -∗ run c (k ⟨⟩) Q)
          -∗ run c (.op (.semWait sem a) k) Q) := by
  subst hs ha
  unfold bars owes'
  iintro ⟨#He, ⟨-, ⟨%W, Ho⟩⟩, Hat, Hc⟩ Hk
  iapply (Rounds.wp_wait_rest_token 𝒱₀ ER (sched m ρ) (c : Thread nD τ) none (κ := K (c, none)) (sm := .reg barS)
      (wpE_semWait_eq 𝒱₀ (c : Thread nD τ) none Set.univ) (Set.mem_univ _) () (O := owed c seq) (W := W) (R := 0) (m := 0) (T := ∅)
      (k' := 5) (by rw [Nat.zero_add, expect_bar])) $$ [Hc Ho Hat]
  · isplitr; · iapply (env_inv m ρ K (c, none)); iexact He
    isplitl [Hc]; · iexact Hc
    isplitl [Ho]; · iexact Ho
    isplitr; · iapply ((env_lev m ρ K).trans (mayWait_bar c)); iexact He
    iexact Hat
  iintro ⟨Ho, Hat, -, Hp⟩
  ihave Hp := (Entails.of_eq (rest_bar m ρ c)) $$ Hp
  imod (Rounds.cell_close ER (sched m ρ) (Set.mem_univ (K (c, none))) (fun h => h) (R := 0 + 1) (duties_later m ρ (barCell c))) $$ [Hat] with Hz
  · isplitr; · iapply (env_inv m ρ K (c, none)); iexact He
    iexact Hat
  iapply Hk
  isplitl [Ho]; · iexists _; iexact Ho
  isplitl [Hz] <;> iassumption

/-! ## The run -/

/-- What the body starts from, apart from what it knows. -/
def before (c : Dev nD) : sProp 𝕄 :=
  iprop(bars c [0, 1, 2, 3, 4] ∗ atPos ER (barCell c) 0 ∅ 0 ∗ cred (tallyAt (barCell c) () 5)
    ∗ sepL (fun j => ready c (back j) j) seq ∗ sepL (pend c) recvs
    ∗ (bigSep Finset.univ fun u : Fin 4 => held c (xS c u 0) fullShare.left (acc m ρ 0 c u)) ∗ xHalf m ρ c
    ∗ bigSep Finset.univ fun u : Fin 4 => free c (oS u (qc c)))
/-- What it ends with. -/
def after (c : Dev nD) : sProp 𝕄 :=
  iprop(semVal (barCell c) 0 ∗ (bigSep Finset.univ fun i => semVal (cell c i) 0)
    ∗ kind (fun i => xferPay m ρ i c) 0 ∗ kind (fun i => xferPay m ρ i c) 2 ∗ kind (fun i => xferPay m ρ i c) 3
    ∗ (bigSep Finset.univ fun u : Fin 4 => free c (slot u 3)) ∗ xHalf m ρ c ∗ owes' c [])

/-- The barrier hands over all the blocks the device's transfers overwrite: the ledger of the ring's start. -/
theorem stage_open (c : Dev nD) :
    iprop((bigSep Finset.univ fun d => barPay c d) ∗ sepL (fun j => ready c (back j) j) seq ∗ sepL (pend c) recvs ∗ owes' c seq ∗ xHalf m ρ c)
      ⊢ stage m ρ c 0 0 := by
  have hd1 : barPay (F := F) c 0 = kind (dstFree c) 1 := (kind_nest (dstFree (F := F) c) 1).symm
  have hd3 : (iprop(barPay (F := F) c 2 ∗ barPay c 3 ∗ barPay c 4) : sProp 𝕄) = kind (dstFree c) 3 := by
    rw [kind_nest, bigSep_univ_comm, sep_fin3]; rfl
  have hseq (Φ : Ci → sProp 𝕄) : sepL Φ seq = iprop(kind Φ 1 ∗ kind Φ 3) := sepL_kinds Φ (by decide) seq (by decide) (by decide)
  unfold stage ring
  rw [sep_fin5, hd1, hd3, List.drop_zero, List.drop_zero, hseq, hseq]
  unfold setup
  rw [kind_sep, kind_sep]
  iintro ⟨⟨H1, -, H3⟩, ⟨R1, R3⟩, Hr, Ho, Hx⟩
  isplitl [H1 H3 R1 R3]
  · isplitl [H1 R1]
    · isplitl [R1] <;> iassumption
    isplitl [R3] <;> iassumption
  isplitr; · unfold sepL; iempintro
  isplitl [Hr]; · iexact Hr
  isplitr; · unfold sepL; iempintro
  isplitl [Ho] <;> iassumption

/-- The body runs on device `c` from what it starts with to what it ends with. -/
theorem run_body (c : Dev nD) (Kt : PUnit → sProp 𝕄) : iprop(env m ρ K ∗ before m ρ c ∗ (after m ρ c -∗ Kt ⟨⟩))
    ⊢ run c (on (cc0_body (F := F))) Kt := by
  unfold before
  iintro ⟨#He, ⟨Hb, Hat, Hc, Hr, Hrem, Hx4, Hx, Ho4⟩, Hk⟩
  simp only [cc0_body_eq_skeleton]; unfold cc0_body_skel
  rw [k0_part36_eq_skeleton]; unfold k0_part36_skel
  rw [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, Prog.bind_assoc, wp_deviceId]
  iapply (bar_signal m ρ K c 0 [1, 2, 3, 4] (dev_bar 0 c) rfl rfl) $$ [Hb]
  · isplitr <;> iassumption
  iintro Hb
  iapply (bar_signal m ρ K c 1 [2, 3, 4] (dev_bar 1 c) rfl rfl) $$ [Hb]
  · isplitr <;> iassumption
  iintro Hb
  iapply (bar_signal m ρ K c 2 [3, 4] (dev_bar 2 c) rfl rfl) $$ [Hb]
  · isplitr <;> iassumption
  iintro Hb
  iapply (bar_signal m ρ K c 3 [4] (dev_bar 3 c) rfl rfl) $$ [Hb]
  · isplitr <;> iassumption
  iintro Hb
  iapply (bar_signal m ρ K c 4 [] (dev_bar 4 c) rfl rfl) $$ [Hb]
  · isplitr <;> iassumption
  iintro Hb
  iapply (bar_wait m ρ K c rfl rfl) $$ [Hb Hat Hc]
  · isplitr; · iexact He
    isplitl [Hb]; · iexact Hb
    isplitl [Hat] <;> iassumption
  iintro ⟨Ho, Hz, Hp⟩
  ihave H := (stage_open m ρ c) $$ [Hp Hr Hrem Ho Hx]
  · isplitl [Hp]; · iexact Hp
    isplitl [Hr]; · iexact Hr
    isplitl [Hrem]; · iexact Hrem
    isplitl [Ho] <;> iassumption
  ihave Hx4 := (Entails.of_eq (sep_fin4 _)) $$ Hx4
  ihave Ho4 := (Entails.of_eq (sep_fin4 _)) $$ Ho4
  icases Hx4 with ⟨Hx0, Hx1, Hx2, Hx3⟩
  icases Ho4 with ⟨Ho0, Ho1, Ho2, Ho3⟩
  iapply (part4 m ρ K c _ _ _ _ _ _ _ _ _ _) $$ [Hx0 H]
  · isplitr; · iexact He
    isplitl [Hx0] <;> iassumption
  iintro %r4 H
  iapply (part5 m ρ K c _ _ _ _ _ _) $$ [Hx1 Hx2 H]
  · isplitr; · iexact He
    isplitl [Hx1]; · iexact Hx1
    isplitl [Hx2] <;> iassumption
  iintro %r5 H
  iapply (part6 m ρ K c _ _ _ _ _) $$ [Hx3 H]
  · isplitr; · iexact He
    isplitl [Hx3] <;> iassumption
  iintro %r6 H
  iapply (part7 m ρ K c _ _ _ _ _ _) $$ [H]
  · isplitr <;> iassumption
  iintro %r7 H
  iapply (part8 m ρ K c _ _ _ _ _ _) $$ [H]
  · isplitr <;> iassumption
  iintro %r8 H
  icases H with ⟨Hs, H⟩
  rw [← Prog.bind_assoc]
  iapply (part9_10 m ρ K c _ _ _ _ _ _ _ _ _ _) $$ [Hs H]
  · isplitr; · iexact He
    isplitl [Hs] <;> iassumption
  iintro %r10 H
  iapply (part11 m ρ K c _ _ _ _ _ _ _) $$ [H]
  · isplitr <;> iassumption
  iintro %r11 H
  iapply (part12_13 m ρ K c _ _ _ _ _ _ _ _ _ (fun _ _ _ => rfl)) $$ [H]
  · isplitr <;> iassumption
  iintro %r12 %r13 H
  iapply (part14 m ρ K c _ _ _ _ _ _ _ _) $$ [H]
  · isplitr <;> iassumption
  iintro %r14 H
  icases H with ⟨Hs, H⟩
  iapply (part15 m ρ K c _ _ _ _ _ _) $$ [Hs H]
  · isplitr; · iexact He
    isplitl [Hs] <;> iassumption
  iintro %r15 H
  icases H with ⟨Hs, H⟩
  rw [← Prog.bind_assoc]
  iapply (part16_17 m ρ K c _ _ _ _ _ _ _ _ _ _) $$ [Hs H]
  · isplitr; · iexact He
    isplitl [Hs] <;> iassumption
  iintro %r17 H
  iapply (part18_19 m ρ K c _ _ _ _ _ _ _ _ _ _ _ _ _ _ (fun _ _ _ => rfl)) $$ [Ho0 H]
  · isplitr; · iexact He
    isplitl [Ho0] <;> iassumption
  iintro %r18 %r19 H
  icases H with ⟨Hf0, H2, H⟩
  iapply (part20 m ρ K c _ _ _ _ _ _ _ _ _) $$ [H2 Ho1 H]
  · isplitr; · iexact He
    isplitl [H2]; · iexact H2
    isplitl [Ho1] <;> iassumption
  iintro %r20 H
  icases H with ⟨Hf1, H0, H1, H2, H⟩
  iapply (part21 m ρ K c _ _ _ _ _ _ _) $$ [H0 H1 H]
  · isplitr; · iexact He
    isplitl [H0]; · iexact H0
    isplitl [H1] <;> iassumption
  iintro %r21 H
  iapply (part22 m ρ K c _ _ _ _ _ _) $$ [H2 Ho2 H]
  · isplitr; · iexact He
    isplitl [H2]; · iexact H2
    isplitl [Ho2] <;> iassumption
  iintro %r22 H
  icases H with ⟨Hf2, H0, H1, H2, H⟩
  iapply (part23 m ρ K c _ _ _ _ _ _ _) $$ [H0 H1 H]
  · isplitr; · iexact He
    isplitl [H0]; · iexact H0
    isplitl [H1] <;> iassumption
  iintro %r23 H
  iapply (part24 m ρ K c _ _ _ _ _ _) $$ [H2 Ho3 H]
  · isplitr; · iexact He
    isplitl [H2]; · iexact H2
    isplitl [Ho3] <;> iassumption
  iintro %r24 H
  icases H with ⟨Hf3, H0, H1, H2, H⟩
  iapply (part25 m ρ K c _ _ _ _ _ _ _ _) $$ [H0 H1 H]
  · isplitr; · iexact He
    isplitl [H0]; · iexact H0
    isplitl [H1] <;> iassumption
  iintro %r25 H
  iapply (part26 m ρ K c _ _ _ _) $$ [H2 H]
  · isplitr; · iexact He
    isplitl [H2] <;> iassumption
  iintro %r26 H
  icases H with ⟨H, Hz1, Hx⟩
  iapply (part27 m ρ K c _ _ _ _ _ _) $$ [H]
  · isplitr <;> iassumption
  iintro %r27 H
  iapply (part28 m ρ K c _ _ _ _ _ _ _) $$ [H]
  · isplitr <;> iassumption
  iintro %r28 H
  iapply (part29 m ρ K c _ _ _ _ _ _) $$ [H]
  · isplitr <;> iassumption
  iintro %r29 H
  iapply (part30 m ρ K c _ _ _ _ _) $$ [H]
  · isplitr <;> iassumption
  iintro %r30 H
  iapply (part31 m ρ K c _) $$ [H]
  · isplitr <;> iassumption
  iintro %r31 H
  iapply (part32 m ρ K c _) $$ [H]
  · isplitr <;> iassumption
  iintro %r32 H
  iapply (part33 m ρ K c _) $$ [H]
  · isplitr <;> iassumption
  iintro %r33 H
  iapply (part34 m ρ K c _) $$ [H]
  · isplitr <;> iassumption
  iintro %r34 H
  iapply (part35 m ρ K c _) $$ [H]
  · isplitr <;> iassumption
  iintro %r35 H
  iapply (last_wait3 m ρ K c 33 (2, 1, 2) (2, 2, 2) (2, 3, 2) rfl rfl rfl rfl rfl rfl (credit_oslice _) (credit_oslice _) (credit_oslice _)) $$ [H]
  · isplitr <;> iassumption
  iintro H
  ihave H := (last_done m ρ c) $$ H
  icases H with ⟨Ho, ⟨Hz0, Hp0⟩, ⟨Hz2, Hp2⟩, ⟨Hz3, Hp3⟩⟩
  iapply (le_wp_ret _ _ _ _ _)
  iapply Hk
  unfold after
  rw [all_kinds (fun i => semVal (cell c i) 0), sep_fin4]
  isplitl [Hz]; · iexact Hz
  isplitl [Hz0 Hz1 Hz2 Hz3]
  · isplitl [Hz0]; · iexact Hz0
    isplitl [Hz1]; · iexact Hz1
    isplitl [Hz2] <;> iassumption
  isplitl [Hp0]; · iexact Hp0
  isplitl [Hp2]; · iexact Hp2
  isplitl [Hp3]; · iexact Hp3
  isplitl [Hf0 Hf1 Hf2 Hf3]
  · isplitl [Hf0]; · iexact Hf0
    isplitl [Hf1]; · iexact Hf1
    isplitl [Hf2] <;> iassumption
  isplitl [Hx] <;> iassumption

end Cert.RingProof
-- ==== Proof.Glue.lean ====
/-
The device's three buffers and the blocks the body works with: x, the landing buffer and the result are cut into blocks
when the body starts and made whole again when it ends.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A buffer and a family of parts covering it -/

omit [FloatOps F] in
/-- A buffer held whole is its parts, each held at something. -/
theorem parts_of {T : Type} [Fintype T] [DecidableEq T] {ℓ : Loc nD τ sig} (P : T → Finset (Idx ℓ)) (hd : ∀ t t', t ≠ t' → Disjoint (P t) (P t'))
    (hc : Finset.univ.biUnion P = Finset.univ) (f : Buf (Elt F) ℓ) :
    (ℓ ↦{fullShare} f : sProp 𝕄) ⊢ bigSep Finset.univ fun t => iprop(∃ g, ℓ ↦[P t]{fullShare} g) := by
  rw [← hc, pointsTo_biUnion Finset.univ P fun t _ t' _ h => hd t t' h]
  refine bigSep_mono fun t _ => ?_
  show (ℓ ↦[P t]{fullShare} f : sProp 𝕄) ⊢ _
  iintro H; iexists f; iexact H
omit [FloatOps F] in
/-- And back. -/
theorem of_parts {T : Type} [Fintype T] [DecidableEq T] {ℓ : Loc nD τ sig} (P : T → Finset (Idx ℓ)) (hd : ∀ t t', t ≠ t' → Disjoint (P t) (P t'))
    (hc : Finset.univ.biUnion P = Finset.univ) (f₀ : Buf (Elt F) ℓ) :
    (bigSep Finset.univ fun t => iprop(∃ g, ℓ ↦[P t]{fullShare} g)) ⊢ (iprop(∃ g, ℓ ↦{fullShare} g) : sProp 𝕄) := by
  haveI : Nonempty (Buf (Elt F) ℓ) := ⟨f₀⟩
  iintro H
  ihave H := (BI.bigSep_exists_pi Finset.univ (fun (t : T) (g : Buf (Elt F) ℓ) => (ℓ ↦[P t]{fullShare} g : sProp 𝕄))) $$ H
  icases H with ⟨%g, H⟩
  ihave H := (pointsTo_biUnion_join Finset.univ P g f₀ fun t _ t' _ h => hd t t' h) $$ H
  icases H with ⟨%e, -, H⟩
  rw [hc]
  iexists e; iexact H

omit [FloatOps F] in
/-- Holding a memref at something is holding its elements at something. -/
theorem free_eq (c : Dev nD) {sp : Space} {s : Shape} (M : Memref sig .tc sp s .f32) :
    (free (F := F) c M) = iprop(∃ g, M.view.loc (c : Thread nD τ) ↦[M.view.set]{fullShare} g) := by
  refine BI.equiv_iff.mp ⟨?_, ?_⟩
  · show free c M ⊢ _
    iintro ⟨%X, H⟩
    ihave H := (held_elim c M fullShare X) $$ H
    icases H with ⟨%g, -, H⟩
    iexists g; iexact H
  · show _ ⊢ free c M
    iintro ⟨%g, H⟩
    iexists _
    iapply (held_intro c M fullShare g rfl); iexact H
omit [FloatOps F] in
/-- Holding a memref at what it reads of `g` is holding its elements at `g`. -/
theorem held_read (c : Dev nD) {sp : Space} {s : Shape} (M : Memref sig .tc sp s .f32) (q : PosShare TreeShare) (g : M.view.ty.Contents (Elt F)) :
    (held c M q (M.view.read (Elt F) g) : sProp 𝕄) = (M.view.loc (c : Thread nD τ) ↦[M.view.set]{q} g) := by
  refine BI.equiv_iff.mp ⟨?_, held_intro c M q g rfl⟩
  show held c M q _ ⊢ _
  iintro H
  ihave H := (held_elim c M q _) $$ H
  icases H with ⟨%f, %hf, H⟩
  have e : (M.view.loc (c : Thread nD τ) ↦[M.view.set]{q} f : sProp 𝕄) = (M.view.loc (c : Thread nD τ) ↦[M.view.set]{q} g) :=
    pointsTo_congr fun i hi => by
      obtain ⟨j, -, rfl⟩ := Finset.mem_map.mp hi
      have h := congrFun hf j
      simp only [View.read] at h
      exact (cast_inj _).mp h
  rw [← e]
  iexact H

/-! ## The landing buffer -/

/-- An element of the landing buffer is in a slot when its first two indices are the slot's. -/
theorem mem_slot (u t : Fin 4) (i : S4x4x128x128.Idx) :
    i ∈ (slot u t).view.set ↔ (i (0 : Fin 4)).val = u.val ∧ (i (1 : Fin 4)).val = t.val := by
  rw [show (slot u t).view.set = (slotR u t).set from (View.set_reshape _ _).trans (View.set_slice_whole _ _), Rect.mem_set_unit]
  have h2 : (i (2 : Fin 4)).val < 128 := (i (2 : Fin 4)).isLt
  have h3 : (i (3 : Fin 4)).val < 128 := (i (3 : Fin 4)).isLt
  constructor
  · intro h
    have a0 : u.val ≤ (i (0 : Fin 4)).val ∧ (i (0 : Fin 4)).val < u.val + 1 := h (0 : Fin 4)
    have a1 : t.val ≤ (i (1 : Fin 4)).val ∧ (i (1 : Fin 4)).val < t.val + 1 := h (1 : Fin 4)
    omega
  · rintro ⟨h0, h1⟩ a
    fin_cases a
    · show u.val ≤ (i (0 : Fin 4)).val ∧ (i (0 : Fin 4)).val < u.val + 1; omega
    · show t.val ≤ (i (1 : Fin 4)).val ∧ (i (1 : Fin 4)).val < t.val + 1; omega
    · show 0 ≤ (i (2 : Fin 4)).val ∧ (i (2 : Fin 4)).val < 0 + 128; omega
    · show 0 ≤ (i (3 : Fin 4)).val ∧ (i (3 : Fin 4)).val < 0 + 128; omega

/-- Different slots share no element. -/
theorem slot_disjoint (p p' : Fin 4 × Fin 4) (h : p ≠ p') : Disjoint (slot p.1 p.2).view.set (slot p'.1 p'.2).view.set :=
  Finset.disjoint_left.mpr fun i hi hi' => h (by
    have a := (mem_slot p.1 p.2 i).mp hi
    have b := (mem_slot p'.1 p'.2 i).mp hi'
    exact Prod.ext (Fin.ext (a.1.symm.trans b.1)) (Fin.ext (a.2.symm.trans b.2)))
/-- The slots cover the landing buffer. -/
theorem slot_cover : Finset.biUnion (β := S4x4x128x128.Idx) Finset.univ (fun p : Fin 4 × Fin 4 => (slot p.1 p.2).view.set) = Finset.univ :=
  Finset.eq_univ_iff_forall.mpr fun i => Finset.mem_biUnion.mpr
    ⟨(i (0 : Fin 4), i (1 : Fin 4)), Finset.mem_univ _, (mem_slot _ _ i).mpr ⟨rfl, rfl⟩⟩

omit [FloatOps F] in
/-- The slots, chain by chain. -/
theorem slots_nest (c : Dev nD) : (bigSep Finset.univ fun p : Fin 4 × Fin 4 => iprop(∃ g, (c : Thread nD τ).loc cc0_scratch0 ↦[(slot p.1 p.2).view.set]{fullShare} g) : sProp 𝕄)
    = bigSep Finset.univ fun t : Fin 4 => bigSep Finset.univ fun u : Fin 4 => free c (slot u t) := by
  rw [bigSep_univ_comm, ← bigSep_univ_prod fun p : Fin 4 × Fin 4 => free (F := F) c (slot p.1 p.2)]
  exact bigSep_congr fun p _ => (free_eq c (slot p.1 p.2)).symm
omit [FloatOps F] in
/-- The landing buffer splits into its slots. -/
theorem scr_split (c : Dev nD) : (iprop(∃ f, (c : Thread nD τ).loc cc0_scratch0 ↦{fullShare} f) : sProp 𝕄)
    ⊢ bigSep Finset.univ fun t : Fin 4 => bigSep Finset.univ fun u : Fin 4 => free c (slot u t) := by
  iintro ⟨%f, H⟩
  rw [← slots_nest]
  iapply (parts_of (ℓ := (c : Thread nD τ).loc cc0_scratch0) (fun p : Fin 4 × Fin 4 => (slot p.1 p.2).view.set) slot_disjoint slot_cover f); iexact H
/-- The slots join to the landing buffer. -/
theorem scr_join (c : Dev nD) : (bigSep Finset.univ fun t : Fin 4 => bigSep Finset.univ fun u : Fin 4 => free c (slot u t))
    ⊢ (iprop(∃ f, (c : Thread nD τ).loc cc0_scratch0 ↦{fullShare} f) : sProp 𝕄) := by
  rw [← slots_nest]
  exact of_parts (ℓ := (c : Thread nD τ).loc cc0_scratch0) (fun p : Fin 4 × Fin 4 => (slot p.1 p.2).view.set) slot_disjoint slot_cover (fun _ => (FloatOps.ofBits .f32 0 : F .f32))

/-! ## The result -/

/-- An element of the result is in a block when its row and column, over 128, are the block's. -/
theorem mem_oR (u q : Fin 4) (i : S512x512.Idx) :
    i ∈ (oR u q).set ↔ (i (0 : Fin 2)).val / 128 = u.val ∧ (i (1 : Fin 2)).val / 128 = q.val := by
  rw [Rect.mem_set_unit]
  constructor
  · intro h
    have a0 : 128 * u.val ≤ (i (0 : Fin 2)).val ∧ (i (0 : Fin 2)).val < 128 * u.val + 128 := h (0 : Fin 2)
    have a1 : 128 * q.val ≤ (i (1 : Fin 2)).val ∧ (i (1 : Fin 2)).val < 128 * q.val + 128 := h (1 : Fin 2)
    omega
  · rintro ⟨h0, h1⟩ a
    fin_cases a
    · show 128 * u.val ≤ (i (0 : Fin 2)).val ∧ (i (0 : Fin 2)).val < 128 * u.val + 128; omega
    · show 128 * q.val ≤ (i (1 : Fin 2)).val ∧ (i (1 : Fin 2)).val < 128 * q.val + 128; omega
/-- Different blocks of the result share no element. -/
theorem oR_disjoint (p p' : Fin 4 × Fin 4) (h : p ≠ p') : Disjoint (oR p.1 p.2).set (oR p'.1 p'.2).set :=
  Finset.disjoint_left.mpr fun i hi hi' => h (by
    have a := (mem_oR p.1 p.2 i).mp hi
    have b := (mem_oR p'.1 p'.2 i).mp hi'
    exact Prod.ext (Fin.ext (a.1.symm.trans b.1)) (Fin.ext (a.2.symm.trans b.2)))
/-- The blocks cover the result. -/
theorem oR_cover : (Finset.univ.biUnion fun p : Fin 4 × Fin 4 => (oR p.1 p.2).set) = Finset.univ :=
  Finset.eq_univ_iff_forall.mpr fun i => Finset.mem_biUnion.mpr
    ⟨(⟨(i (0 : Fin 2)).val / 128, by have : (i (0 : Fin 2)).val < 512 := (i (0 : Fin 2)).isLt; omega⟩,
      ⟨(i (1 : Fin 2)).val / 128, by have : (i (1 : Fin 2)).val < 512 := (i (1 : Fin 2)).isLt; omega⟩), Finset.mem_univ _, (mem_oR _ _ i).mpr ⟨rfl, rfl⟩⟩
/-- A block of the result as a memref and as a rectangle has the same elements. -/
theorem set_oS (u q : Fin 4) : (oS u q).view.set = (oR u q).set := View.set_slice_whole _ _

omit [FloatOps F] in
/-- The four column blocks of the result: the device's own and its three partners'. -/
theorem columns (c : Dev nD) (Φ : Fin 4 → sProp 𝕄) :
    bigSep Finset.univ Φ = iprop(Φ (qc c) ∗ Φ (qc (pr 0 c)) ∗ Φ (qc (pr 1 c)) ∗ Φ (qc (pr 2 c))) :=
  bigSep_univ_eq_bigSepL [qc c, qc (pr 0 c), qc (pr 1 c), qc (pr 2 c)]
    ((by decide +kernel : ∀ c : Dev nD, Finset.univ = [qc c, qc (pr 0 c), qc (pr 1 c), qc (pr 2 c)].toFinset) c)
    ((by decide +kernel : ∀ c : Dev nD, [qc c, qc (pr 0 c), qc (pr 1 c), qc (pr 2 c)].Nodup) c) Φ

omit [FloatOps F] in
/-- The staged result splits into its blocks. -/
theorem out_split (c : Dev nD) (f : Buf (Elt F) ((c : Thread nD τ).loc cc0_stg1_0)) : ((c : Thread nD τ).loc cc0_stg1_0 ↦{fullShare} f : sProp 𝕄)
    ⊢ bigSep Finset.univ fun q : Fin 4 => bigSep Finset.univ fun u : Fin 4 => free c (oS u q) := by
  rw [bigSep_univ_comm, ← bigSep_univ_prod fun p : Fin 4 × Fin 4 => free (F := F) c (oS p.1 p.2)]
  refine (parts_of (ℓ := (c : Thread nD τ).loc cc0_stg1_0) (fun p : Fin 4 × Fin 4 => (oR p.1 p.2).set) oR_disjoint oR_cover f).trans (bigSep_mono fun p _ => ?_)
  have e : free c (oS p.1 p.2) = (iprop(∃ g, (c : Thread nD τ).loc cc0_stg1_0 ↦[(oR p.1 p.2).set]{fullShare} g) : sProp 𝕄) := by rw [free_eq, set_oS]
  exact Entails.of_eq e.symm

/-- The blocks of all columns, each at what its owner reduced, are the result. -/
theorem out_join (c : Dev nD) : (bigSep Finset.univ fun q : Fin 4 => bigSep Finset.univ fun u : Fin 4 => held c (oS u q) fullShare (acc m ρ 3 (own q c) u))
    ⊢ held c oM fullShare (outAt m ρ c) := by
  rw [bigSep_univ_comm, ← bigSep_univ_prod fun p : Fin 4 × Fin 4 => held c (oS p.1 p.2) fullShare (acc m ρ 3 (own p.2 c) p.1)]
  refine (bigSep_mono fun p _ => ?_).trans (owns_of_rects (c : Thread nD τ) oM fullShare (fun p : Fin 4 × Fin 4 => oR p.1 p.2) (fun _ _ => rfl) oR_disjoint oR_cover (outAt m ρ c))
  exact Entails.of_eq (congrArg (held c (oS p.1 p.2) fullShare) (outAt_block m ρ c p.1 p.2).symm)

/-! ## x -/

/-- What stays of the left half of x when the four blocks the ring starts from are lent. -/
def xRest (c : Dev nD) : sProp 𝕄 :=
  (c : Thread nD τ).loc cc0_stg0_0 ↦[Finset.univ \ Finset.univ.biUnion fun u : Fin 4 => (xS c u 0).view.set]{fullShare.left} xstg m ρ c

/-- The blocks of x that different chains start from share no element. -/
theorem xS_disjoint (c : Dev nD) (u u' : Fin 4) (h : u ≠ u') : Disjoint (xS c u 0).view.set (xS c u' 0).view.set := by
  rw [show (xS c u 0).view.set = (xR c u 0).set from (View.set_reshape _ _).trans (View.set_slice_whole _ _),
    show (xS c u' 0).view.set = (xR c u' 0).set from (View.set_reshape _ _).trans (View.set_slice_whole _ _)]
  refine Finset.disjoint_left.mpr fun i hi hi' => h (Fin.ext ?_)
  have a : 128 * u.val ≤ (i (1 : Fin 3)).val ∧ (i (1 : Fin 3)).val < 128 * u.val + 128 := Rect.mem_set_unit.mp hi (1 : Fin 3)
  have b : 128 * u'.val ≤ (i (1 : Fin 3)).val ∧ (i (1 : Fin 3)).val < 128 * u'.val + 128 := Rect.mem_set_unit.mp hi' (1 : Fin 3)
  omega

/-- x is the half kept for loads, the four blocks the ring starts from at the other half, and the rest. -/
theorem x_parts (c : Dev nD) : ((c : Thread nD τ).loc cc0_stg0_0 ↦{fullShare} xstg m ρ c : sProp 𝕄)
    ⊣⊢ iprop(((bigSep Finset.univ fun u : Fin 4 => held c (xS c u 0) fullShare.left (acc m ρ 0 c u)) ∗ xRest m ρ c) ∗ xHalf m ρ c) := by
  have e : (bigSep Finset.univ fun u : Fin 4 => held c (xS c u 0) fullShare.left (acc m ρ 0 c u) : sProp 𝕄)
      = ((c : Thread nD τ).loc cc0_stg0_0 ↦[Finset.univ.biUnion fun u : Fin 4 => (xS c u 0).view.set]{fullShare.left} xstg m ρ c) := by
    rw [pointsTo_biUnion Finset.univ _ fun u _ u' _ h => xS_disjoint c u u' h]
    exact bigSep_congr fun u _ => held_read c (xS c u 0) fullShare.left (xstg m ρ c)
  rw [e]
  unfold xRest xHalf
  refine (pointsTo_share (PosShare.mem_left_op_right fullShare)).trans ⟨?_, ?_⟩
  · exact sep_mono_left (pointsTo_split_subset (Finset.subset_univ _)).1
  · exact sep_mono_left (pointsTo_split_subset (Finset.subset_univ _)).2

/-! ## The body's entry and exit -/

/-- The part of the buffers the body never touches: the rest of x and the landing buffer's first slots. -/
def idle (c : Dev nD) : sProp 𝕄 := iprop(xRest m ρ c ∗ bigSep Finset.univ fun u : Fin 4 => free c (slot u 0))

/-- What a device's five signals hand over is cut from its own landing buffer and its own result. -/
theorem given (c : Dev nD) : sepL (fun d => barPay (F := F) (btgt d c) d) [0, 1, 2, 3, 4]
    = iprop((bigSep Finset.univ fun u : Fin 4 => bigSep Finset.univ fun t : Fin 3 => free c (slot u t.succ)) ∗ emp
        ∗ (bigSep Finset.univ fun u : Fin 4 => free c (oS u (qc (pr 0 c)))) ∗ (bigSep Finset.univ fun u : Fin 4 => free c (oS u (qc (pr 1 c))))
        ∗ (bigSep Finset.univ fun u : Fin 4 => free c (oS u (qc (pr 2 c)))) ∗ emp) := by
  have h0 : barPay (F := F) (btgt 0 c) 0 = bigSep Finset.univ fun u : Fin 4 => bigSep Finset.univ fun t : Fin 3 => free c (slot u t.succ) := by
    show (bigSep Finset.univ fun u : Fin 4 => bigSep Finset.univ fun t : Fin 3 => free (nxt (prv c)) (slot u t.succ)) = _
    rw [nxt_prv]
  have hk (k : Fin 3) : (bigSep Finset.univ fun u : Fin 4 => free (F := F) (pr k (pr k c)) (oS u (qc (pr k c)))) = bigSep Finset.univ fun u : Fin 4 => free c (oS u (qc (pr k c))) := by
    rw [pr_pr]
  rw [sepL_cons, sepL_cons, sepL_cons, sepL_cons, sepL_cons, h0, ← hk 0, ← hk 1, ← hk 2]
  rfl

/-- From the buffers to the blocks. -/
theorem enter (c : Dev nD) (f : Buf (Elt F) ((c : Thread nD τ).loc cc0_stg1_0)) :
    iprop(((c : Thread nD τ).loc cc0_stg0_0 ↦{fullShare} xstg m ρ c) ∗ (∃ f, (c : Thread nD τ).loc cc0_scratch0 ↦{fullShare} f) ∗ ((c : Thread nD τ).loc cc0_stg1_0 ↦{fullShare} f))
      ⊢ iprop(sepL (fun d => barPay (F := F) (btgt d c) d) [0, 1, 2, 3, 4]
        ∗ (bigSep Finset.univ fun u : Fin 4 => held c (xS c u 0) fullShare.left (acc m ρ 0 c u)) ∗ xHalf m ρ c
        ∗ (bigSep Finset.univ fun u : Fin 4 => free c (oS u (qc c))) ∗ idle m ρ c) := by
  rw [given, bigSep_univ_comm, sep_fin3]
  unfold idle
  iintro ⟨Hx, Hr, Ho⟩
  ihave Hx := (x_parts m ρ c).1 $$ Hx
  icases Hx with ⟨⟨H4, Hxr⟩, Hxh⟩
  ihave Hr := (scr_split (F := F) c) $$ Hr
  ihave Hr := (Entails.of_eq (sep_fin4 (fun t : Fin 4 => bigSep Finset.univ fun u : Fin 4 => free (F := F) c (slot u t)))) $$ Hr
  icases Hr with ⟨Hr0, Hr⟩
  ihave Ho := (out_split (F := F) c f) $$ Ho
  ihave Ho := (Entails.of_eq (columns c (fun q : Fin 4 => bigSep Finset.univ fun u : Fin 4 => free (F := F) c (oS u q)))) $$ Ho
  icases Ho with ⟨Hq, H0, H1, H2⟩
  isplitl [Hr H0 H1 H2]
  · isplitl [Hr]; · iexact Hr
    isplitr; · iempintro
    isplitl [H0]; · iexact H0
    isplitl [H1]; · iexact H1
    isplitl [H2]; · iexact H2
    iempintro
  isplitl [H4]; · iexact H4
  isplitl [Hxh]; · iexact Hxh
  isplitl [Hq]; · iexact Hq
  isplitl [Hxr]; · iexact Hxr
  iexact Hr0

/-- The ring's sends hand back the blocks of x and the slots 1 and 2. -/
theorem back_ring (c : Dev nD) : kind (fun i => xferPay m ρ i c) 0
    ⊢ iprop((bigSep Finset.univ fun u : Fin 4 => held c (xS c u 0) fullShare.left (acc m ρ 0 c u))
      ∗ (bigSep Finset.univ fun u : Fin 4 => free c (slot u 1)) ∗ bigSep Finset.univ fun u : Fin 4 => free c (slot u 2)) := by
  rw [kind_nest, bigSep_univ_comm, sep_fin3]
  refine sep_mono_right (BI.sep_mono (bigSep_mono fun u _ => ?_) (bigSep_mono fun u _ => ?_))
  · show held c (slot u 1) fullShare (acc m ρ 1 c u) ⊢ free c (slot u 1)
    iintro H; iexists _; iexact H
  · show held c (slot u 2) fullShare (acc m ρ 2 c u) ⊢ free c (slot u 2)
    iintro H; iexists _; iexact H
/-- The copies' sends hand back the device's own column. -/
theorem back_copy (c : Dev nD) : kind (fun i => xferPay m ρ i c) 2
    ⊢ bigSep Finset.univ fun u : Fin 4 => held c (oS u (qc c)) fullShare (acc m ρ 3 (own (qc c) c) u) := by
  rw [kind_nest, own_self]
  exact bigSep_mono fun u _ => by rw [sep_fin3]; exact held_whole c u (qc c) (acc m ρ 3 c u)
/-- The copies received are the partners' columns. -/
theorem got_copy (c : Dev nD) : kind (fun i => xferPay m ρ i c) 3
    = bigSep Finset.univ fun k : Fin 3 => bigSep Finset.univ fun u : Fin 4 => held c (oS u (qc (pr k c))) fullShare (acc m ρ 3 (own (qc (pr k c)) c) u) := by
  rw [kind_nest, bigSep_univ_comm]
  exact bigSep_congr fun k _ => bigSep_congr fun u _ => by rw [own_pr, pay_got]

/-- From the blocks back to the buffers, the result now whole. -/
theorem leave (c : Dev nD) :
    iprop(after m ρ c ∗ idle m ρ c)
      ⊢ iprop((semVal (barCell c) 0 ∗ (bigSep Finset.univ fun i => semVal (cell c i) 0) ∗ owes' c [])
        ∗ ((c : Thread nD τ).loc cc0_stg0_0 ↦{fullShare} xstg m ρ c) ∗ (∃ f, (c : Thread nD τ).loc cc0_scratch0 ↦{fullShare} f)
        ∗ held c oM fullShare (outAt m ρ c)) := by
  unfold after idle
  iintro ⟨⟨Hb, Hz, H0, H2, H3, Hs3, Hxh, Hw⟩, ⟨Hxr, Hs0⟩⟩
  isplitl [Hb Hz Hw]
  · isplitl [Hb]; · iexact Hb
    isplitl [Hz]; · iexact Hz
    iexact Hw
  ihave H0 := (back_ring m ρ c) $$ H0
  icases H0 with ⟨H4, Hs1, Hs2⟩
  isplitl [H4 Hxr Hxh]
  · iapply (x_parts m ρ c).2
    isplitl [H4 Hxr]
    · isplitl [H4] <;> iassumption
    iexact Hxh
  isplitl [Hs0 Hs1 Hs2 Hs3]
  · iapply (scr_join (F := F) c)
    iapply (Entails.of_eq (sep_fin4 (fun t : Fin 4 => bigSep Finset.univ fun u : Fin 4 => free (F := F) c (slot u t))).symm)
    isplitl [Hs0]; · iexact Hs0
    isplitl [Hs1]; · iexact Hs1
    isplitl [Hs2]; · iexact Hs2
    iexact Hs3
  iapply (out_join m ρ c)
  iapply (Entails.of_eq (columns c (fun q : Fin 4 => bigSep Finset.univ fun u : Fin 4 => held c (oS u q) fullShare (acc m ρ 3 (own q c) u))).symm)
  ihave H2 := (back_copy m ρ c) $$ H2
  isplitl [H2]; · iexact H2
  ihave H3 := (Entails.of_eq ((got_copy m ρ c).trans (sep_fin3 _))) $$ H3
  iexact H3

end Cert.RingProof
-- ==== Proof.Deal.lean ====
/-
The launch's deal: the cells and the duties' tokens of all devices, whom each token goes to, and the credit each device
starts with.
-/
module

public import proofs.«01_k».proof.Proof.Glue

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The barrier and the transfers are at different places of a device. -/
theorem csem_injective : Function.Injective csem := by
  rintro (_ | i) (_ | j) h
  · rfl
  · exact absurd h (fun h => by cases h)
  · exact absurd h (fun h => by cases h)
  · exact congrArg some (semOf_inj (SemLoc.dma.inj h))
/-- Cells of different devices or places are different. -/
theorem kcell_injective : Function.Injective kcell := fun a b h => by
  have h1 : a.1 = b.1 := congrArg (fun g : GSem nD τ sig => g.1.1) h
  exact Prod.ext h1 (csem_injective (congrArg Prod.snd h))
/-- All the devices' cells. -/
def ringCells : Finset (GSem nD τ sig) := Finset.univ.map ⟨kcell, kcell_injective⟩

/-- The duties of a device's own cells: five at its barrier, one at each transfer's. -/
abbrev tokOf (cj : Dev nD × (Fin 5 ⊕ Ci)) : GSem nD τ sig × ℕ × Fin 5 := match cj.2 with
  | .inl d => (barCell cj.1, 0, d)
  | .inr i => (cell cj.1 i, 0, 0)
/-- Different duties have different tokens. -/
theorem tokOf_injective : Function.Injective tokOf := by
  rintro ⟨c, d | i⟩ ⟨e, d' | j⟩ h
  · have h1 : c = e := congrArg (fun g : GSem nD τ sig × ℕ × Fin 5 => g.1.1.1) h
    have h2 : d = d' := congrArg (fun g : GSem nD τ sig × ℕ × Fin 5 => g.2.2) h
    rw [h1, h2]
  · exact absurd (congrArg (fun g : GSem nD τ sig × ℕ × Fin 5 => g.1.2) h) (fun h => by cases h)
  · exact absurd (congrArg (fun g : GSem nD τ sig × ℕ × Fin 5 => g.1.2) h) (fun h => by cases h)
  · have h1 : c = e := congrArg (fun g : GSem nD τ sig × ℕ × Fin 5 => g.1.1.1) h
    have h2 : SemLoc.dma (semOf i) = SemLoc.dma (semOf j) := congrArg (fun g : GSem nD τ sig × ℕ × Fin 5 => g.1.2) h
    rw [h1, semOf_inj (SemLoc.dma.inj h2)]
/-- The tokens of all the devices' duties. -/
def ringToks : Finset (GSem nD τ sig × ℕ × Fin 5) := Finset.univ.map ⟨tokOf, tokOf_injective⟩

/-- The resource the launch starts from: the pipeline's, and the kernel's own. -/
def u₀ : UU :=
  (initOf (Pipeline.cells cfgs cellOf_inj) (Pipeline.launchToks cfgs cellOf_inj), initOf ringCells ringToks)

/-- The tokens of the duties of device `c`'s own cells. -/
def toks (c : Dev nD) : sProp 𝕄 :=
  iprop((bigSep Finset.univ fun d : Fin 5 => dutyTok ER (barCell c) 0 d) ∗ bigSep Finset.univ fun i : Ci => dutyTok ER (cell c i) 0 (0 : Fin 5))
/-- The tokens of the duties device `c` pays. -/
def pays (c : Dev nD) : sProp 𝕄 :=
  iprop((bigSep Finset.univ fun d : Fin 5 => dutyTok ER (barCell (btgt d c)) 0 d) ∗ bigSep Finset.univ fun i : Ci => dutyTok ER (cell (tgt i c) i) 0 (0 : Fin 5))

omit [FloatOps F] in
/-- Assertions dealt to the devices, each along its own permutation of them. -/
theorem deal {I : Type} [Fintype I] (e : I → Dev nD ≃ Dev nD) (f : I → Dev nD → Dev nD) (h : ∀ i c, e i c = f i c) (Φ : I → Dev nD → sProp 𝕄) :
    (bigSep Finset.univ fun c : Dev nD => bigSep Finset.univ fun i : I => Φ i c) = bigSep Finset.univ fun c : Dev nD => bigSep Finset.univ fun i : I => Φ i (f i c) := by
  rw [bigSep_univ_comm, bigSep_univ_comm (fun (c : Dev nD) (i : I) => Φ i (f i c))]
  exact bigSep_congr fun i _ => (bigSep_univ_equiv (e i) (Φ i)).trans (bigSep_congr fun c _ => by rw [h])

omit [FloatOps F] in
/-- The tokens of all cells are the tokens all devices pay with. -/
theorem toks_around : (bigSep Finset.univ fun c : Dev nD => (toks c : sProp 𝕄)) = bigSep Finset.univ fun c : Dev nD => pays c := by
  unfold toks pays
  rw [bigSep_sep', bigSep_sep', deal btgtE btgt btgtE_apply (fun d c => dutyTok ER (barCell c) 0 d), deal tgtE tgt tgtE_apply (fun i c => dutyTok ER (cell c i) 0 (0 : Fin 5))]

/-! ## The ghost state -/

/-- What the launch element deals device `c`. -/
def G (c : Dev nD) : sProp 𝕄 :=
  iprop((bigSep Finset.univ fun k : Option Ci => roundState ER (sched m ρ) (kcell (c, k)) 0)
    ∗ (bigSep Finset.univ fun k : Option Ci => iprop(atPos ER (kcell (c, k)) 0 ∅ 0 ∗ reached ER (kcell (c, k)) 0)) ∗ toks c)
/-- What stays with device `c`: its places in its cells' rounds, and the tokens it pays with. -/
def linear (c : Dev nD) : sProp 𝕄 := iprop((bigSep Finset.univ fun k : Option Ci => atPos ER (kcell (c, k)) 0 ∅ 0) ∗ pays c)
/-- That, and the records under some names. -/
def G' (c : Dev nD) : sProp 𝕄 := iprop(∃ K, records m ρ K ∗ linear c)

/-- The launch element of the kernel's rounds deals every device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option Ci => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- Over a device's cells: the barrier's, and the transfers'. -/
theorem cells_sep (Φ : Option Ci → sProp 𝕄) : bigSep Finset.univ Φ = iprop(Φ none ∗ bigSep Finset.univ fun i : Ci => Φ (some i)) := by
  rw [show (Finset.univ : Finset (Option Ci)) = insert none (Finset.univ.map Function.Embedding.some) from
      Finset.ext fun k => by cases k <;> simp,
    bigSep_insert (by simp), bigSep_map]
  rfl

omit [FloatOps F] in
/-- The one semaphore outside the call's own is the barrier, at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- The semaphores a device starts with are all its cells, at zero. -/
theorem sems0_eq (c : Dev nD) :
    (iprop(Pipeline.ownSems0 (Ix := Unit) (Name := ℕ) (U := UU) (Lvl := ℕ) (Val := Elt F) (τ := τ) osem c ∗ unscopedSems0 c) : sProp 𝕄)
      ⊢ bigSep Finset.univ fun k : Option Ci => semVal (kcell (c, k)) 0 := by
  unfold Pipeline.ownSems0
  rw [unscopedSems0_eq, cells_sep]
  iintro ⟨Ho, Hb⟩
  isplitl [Hb]; · iexact Hb
  iexact Ho

/-- Each device allocates the invariants of its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Ci => semVal (kcell (c, k)) 0) ∗ bigSep Finset.univ fun k : Option Ci => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat] <;> iassumption

/-- The invariants' names are gathered, and the tokens dealt to those who pay with them. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option Ci => iprop(∃ κ : ℕ, cellInv ER (sched m ρ) κ (kcell ck))),
    bigSep_congr (s := Finset.univ) (fun (c : Dev nD) _ => bigSep_sep' Finset.univ (fun k : Option Ci => (atPos ER (kcell (c, k)) 0 ∅ 0 : sProp 𝕄)) (fun k => reached ER (kcell (c, k)) 0)),
    bigSep_sep', ← bigSep_univ_prod (fun ck : Dev nD × Option Ci => (reached ER (kcell ck) 0 : sProp 𝕄)), toks_around]
  iintro ⟨HI, ⟨Hat, #HR⟩, Htok⟩
  ihave HK := (BI.bigSep_exists_pi Finset.univ (fun (ck : Dev nD × Option Ci) (κ : ℕ) => (cellInv ER (sched m ρ) κ (kcell ck) : sProp 𝕄))) $$ HI
  icases HK with ⟨%K, #HI⟩
  have hone (c : Dev nD) : iprop(records m ρ K ∗ linear c) ⊢ G' m ρ c := by
    unfold G'; iintro H; iexists K; iexact H
  iapply ((sep_mono_left (BI.bigSep_of_persistent Finset.univ (records m ρ K))).trans
    ((Entails.of_eq (bigSep_sep' Finset.univ (fun _ : Dev nD => records m ρ K) linear).symm).trans (bigSep_mono fun c _ => hone c)))
  isplitr
  · unfold records; isplitl; · iexact HI
    iexact HR
  unfold linear
  iapply (Entails.of_eq (bigSep_sep' Finset.univ (fun c : Dev nD => bigSep Finset.univ fun k : Option Ci => (atPos ER (kcell (c, k)) 0 ∅ 0 : sProp 𝕄)) pays).symm)
  isplitl [Hat] <;> iassumption

/-- From the semaphores at zero and the dealt parts, all the devices get what the kernel's proof starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Two transfers' cells are the same only for the same device and transfer. -/
theorem cell_eq_iff {c e : Dev nD} {i j : Ci} : cell c i = cell e j ↔ c = e ∧ i = j := by
  constructor
  · intro h
    have := kcell_injective (a₁ := (c, some i)) (a₂ := (e, some j)) h
    exact ⟨congrArg Prod.fst this, Option.some.inj (congrArg Prod.snd this)⟩
  · rintro ⟨rfl, rfl⟩; rfl
/-- Two barrier cells are the same only for the same device. -/
theorem barCell_eq_iff {c e : Dev nD} : barCell c = barCell e ↔ c = e :=
  ⟨fun h => congrArg (fun g : GSem nD τ sig => g.1.1) h, fun h => h ▸ rfl⟩
/-- A transfer's cell is no barrier cell. -/
theorem cell_ne_bar (c e : Dev nD) (i : Ci) : cell c i ≠ barCell e := fun h => by cases congrArg Prod.snd h

/-- What a device owes a transfer's cell, a barrier's. -/
theorem owed_cell (c e : Dev nD) (i : Ci) (l : List Ci) (h : l.Nodup) :
    owed c l (cell e i) () = if i ∈ l ∧ tgt i c = e then N else 0 := by
  induction l with
  | nil => simp [owed]
  | cons j l ih =>
    unfold owed
    rw [Pi.add_apply, Finsupp.add_apply, tallyAt_apply, ih (List.nodup_cons.mp h).2]
    have hj := (List.nodup_cons.mp h).1
    by_cases hij : i = j
    · subst hij
      rw [if_neg (fun h => hj h.1), Nat.zero_add]
      by_cases ht : tgt i c = e
      · rw [if_pos ⟨by rw [ht], rfl⟩, if_pos ⟨List.mem_cons_self, ht⟩]
      · rw [if_neg (fun h => ht (cell_eq_iff.mp h.1).1.symm), if_neg (fun h => ht h.2)]
    · rw [if_neg (show ¬(cell e i = cell (tgt j c) j ∧ () = ()) from fun h => hij (cell_eq_iff.mp h.1).2), Nat.add_zero]
      simp only [List.mem_cons, hij, false_or]
/-- Transfers owe the barriers nothing. -/
theorem owed_bar (c e : Dev nD) (l : List Ci) : owed c l (barCell e) () = 0 := by
  induction l with
  | nil => rfl
  | cons j l ih => unfold owed; rw [Pi.add_apply, Finsupp.add_apply, tallyAt_apply, ih, if_neg (fun h => cell_ne_bar _ _ _ h.1.symm)]
/-- Signals still to give add nothing to what is owed to a transfer's cell. -/
theorem owedB_cell (c e : Dev nD) (i : Ci) (ds : List (Fin 5)) : owedB c ds (cell e i) () = owed c seq (cell e i) () := by
  induction ds with
  | nil => rfl
  | cons d l ih => unfold owedB; rw [Pi.add_apply, Finsupp.add_apply, tallyAt_apply, ih, if_neg (fun h => cell_ne_bar _ _ _ h.1), Nat.add_zero]
/-- What is owed to a barrier is the number of signals still to give that go there. -/
theorem owedB_bar (c e : Dev nD) (ds : List (Fin 5)) : owedB c ds (barCell e) () = (ds.map fun d => if btgt d c = e then 1 else 0).sum := by
  induction ds with
  | nil => exact owed_bar c e seq
  | cons d l ih =>
    unfold owedB
    rw [Pi.add_apply, Finsupp.add_apply, tallyAt_apply, ih, List.map_cons, List.sum_cons, Nat.add_comm]
    congr 1
    by_cases h : btgt d c = e
    · rw [if_pos ⟨by rw [h], rfl⟩, if_pos h]
    · rw [if_neg (fun h' => h (barCell_eq_iff.mp h'.1).symm), if_neg h]

/-- One device pays a cell's duty: summed over the devices, its amount. -/
theorem sum_perm (e : Dev nD ≃ Dev nD) (c : Dev nD) (n : ℕ) : (∑ d : Dev nD, if e d = c then n else 0) = n := by
  rw [Finset.sum_congr rfl fun d _ => if_congr (e.apply_eq_iff_eq_symm_apply) rfl rfl, Finset.sum_ite_eq' Finset.univ (e.symm c) fun _ => n,
    if_pos (Finset.mem_univ _)]

/-- The credit of a receive's cell: a block's. -/
theorem launch_cell (c : Dev nD) (i : Ci) (hi : i ∈ seq) :
    tallyOn (cell c i) (launchCredit (Pipeline.owing O₀) 0 (cell c i)) = (tallyAt (cell c i) () N : CellTallies nD τ sig Unit) := by
  unfold tallyAt; refine congrArg _ (Finsupp.ext fun u => ?_); cases u
  rw [Pipeline.launchCredit_owing, Finsupp.single_eq_same]
  have h (d : Dev nD) : O₀ d (cell c i) () = if tgtE i d = c then N else 0 := by
    unfold O₀; rw [owedB_cell, owed_cell d c i seq (by decide), tgtE_apply]; simp only [hi, true_and]
  rw [Finset.sum_congr rfl fun d _ => h d, sum_perm]
/-- The credit of a barrier's cell: five units. -/
theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same]
  have h (d : Dev nD) : O₀ d (barCell c) () = ∑ k : Fin 5, if btgtE k d = c then 1 else 0 := by
    unfold O₀; rw [owedB_bar, Fin.sum_univ_five]; simp only [List.map_cons, List.map_nil, List.sum_cons, List.sum_nil, btgtE_apply]; omega
  rw [Finset.sum_congr rfl fun d _ => h d, Finset.sum_comm, Finset.sum_congr rfl fun k _ => sum_perm (btgtE k) c 1]
  rfl

omit [FloatOps F] in
/-- The credits a device waits with: its barrier's, and those of its receives. -/
theorem creds (c : Dev nD) :
    (Pipeline.launchCred O₀ c : sProp 𝕄) ⊢ iprop(cred (tallyAt (barCell c) () 5)
      ∗ kind (fun i => cred (tallyAt (cell c i) () N)) 1 ∗ kind (fun i => cred (tallyAt (cell c i) () N)) 3) := by
  have hk (a : Fin 4) (ha : ∀ p : Fin 4 × Fin 3, (a, p) ∈ seq) :
      kind (fun i => (cred (tallyOn (cell c i) (launchCredit (Pipeline.owing O₀) 0 (cell c i))) : sProp 𝕄)) a = kind (fun i => cred (tallyAt (cell c i) () N)) a :=
    bigSep_congr fun p _ => congrArg cred (launch_cell c (a, p) (ha p))
  unfold Pipeline.launchCred
  refine (bigSep_subset (Finset.subset_univ (Finset.univ.map ⟨csem, csem_injective⟩))).trans ?_
  rw [bigSep_map, cells_sep, all_kinds]
  show iprop(cred (tallyOn (barCell c) (launchCredit (Pipeline.owing O₀) 0 (barCell c)))
    ∗ kind (fun i => cred (tallyOn (cell c i) (launchCredit (Pipeline.owing O₀) 0 (cell c i)))) 0
    ∗ kind (fun i => cred (tallyOn (cell c i) (launchCredit (Pipeline.owing O₀) 0 (cell c i)))) 1
    ∗ kind (fun i => cred (tallyOn (cell c i) (launchCredit (Pipeline.owing O₀) 0 (cell c i)))) 2
    ∗ kind (fun i => cred (tallyOn (cell c i) (launchCredit (Pipeline.owing O₀) 0 (cell c i)))) 3) ⊢ _
  rw [launch_bar, hk 1 (by decide), hk 3 (by decide)]
  iintro ⟨Hb, -, H1, -, H3⟩
  isplitl [Hb]; · iexact Hb
  isplitl [H1] <;> iassumption

end Cert.RingProof
-- ==== Proof.Launch.lean ====
/-
The run of the whole program: the body's obligation in the pipeline, and the launch of the thirty-two kernels together.
-/
module

public import proofs.«01_k».proof.Proof.Deal
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The kernel has no grid: one point. -/
def t₀ : Fin cfg0.N := t0_0
/-- The grid has one point. -/
theorem only_t₀ (t : Fin cfg0.N) : t = t₀ := fin_N0 t

/-- What a device starts from besides its buffers. -/
def start (c : Dev nD) : sProp 𝕄 :=
  iprop(G' m ρ c ∗ (cred (tallyAt (barCell c) () 5)
      ∗ kind (fun i => cred (tallyAt (cell c i) () N)) 1 ∗ kind (fun i => cred (tallyAt (cell c i) () N)) 3) ∗ levAts L lv)
/-- Before the point: that, and the landing buffer. -/
def Φ₀ (c : Dev nD) : sProp 𝕄 := iprop(start m ρ c ∗ ∃ f, (c : Thread nD τ).loc cc0_scratch0 ↦{fullShare} f)
/-- After it: the landing buffer, and every semaphore at zero. -/
def Φ₁ (c : Dev nD) : sProp 𝕄 :=
  iprop((∃ f, (c : Thread nD τ).loc cc0_scratch0 ↦{fullShare} f) ∗ semVal (barCell c) 0 ∗ bigSep Finset.univ fun i => semVal (cell c i) 0)

/-- The pipeline's proof data: x's stage keeps x, the result's stage ends as `outAt`; the device owes its signals and
    transfers before the point and nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A staging buffer owned at `X`: its points-to, at some contents that are `X`. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- A staging buffer of device `c`, whole, with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

variable (K : Dev nD × Option Ci → ℕ)

/-- The tokens and places a device starts with, grouped by the transfer they serve. -/
theorem readied (c : Dev nD) :
    iprop(linear c ∗ kind (fun i => cred (tallyAt (cell c i) () N)) 1 ∗ kind (fun i => cred (tallyAt (cell c i) () N)) 3)
      ⊢ (iprop(sepL (fun d => dutyTok ER (barCell (btgt d c)) 0 d) [0, 1, 2, 3, 4] ∗ atPos ER (barCell c) 0 ∅ 0
        ∗ sepL (fun j => ready c (back j) j) seq ∗ sepL (pend c) recvs) : sProp 𝕄) := by
  have hs (Φ : Ci → sProp 𝕄) : sepL Φ seq = iprop(kind Φ 1 ∗ kind Φ 3) := sepL_kinds Φ (by decide) seq (by decide) (by decide)
  have hr (Φ : Ci → sProp 𝕄) : sepL Φ recvs = iprop(kind Φ 1 ∗ kind Φ 3) := sepL_kinds Φ (by decide) recvs (by decide) (by decide)
  rw [hs, hr, sepL_univ (fun d => dutyTok ER (barCell (btgt d c)) 0 d) [0, 1, 2, 3, 4] (by decide) (by decide)]
  unfold linear pays ready pend
  simp only [kind_sep]
  rw [cells_sep, all_kinds, all_kinds]
  iintro ⟨⟨⟨Hb, A0, A1, A2, A3⟩, Tb, T0, T1, T2, T3⟩, C1, C3⟩
  isplitl [Tb]; · iexact Tb
  isplitl [Hb]; · iexact Hb
  isplitl [A0 A2 T0 T1 T2 T3]
  · isplitl [A0 T0 T1]
    · isplitl [A0]; · iexact A0
      isplitl [T0]; · iexact T0
      iexact T1
    isplitl [A2]; · iexact A2
    isplitl [T2]; · iexact T2
    iexact T3
  isplitl [A1 C1]
  · isplitl [A1] <;> iassumption
  isplitl [A3] <;> iassumption

omit [FloatOps F] in
/-- Over a list, two assertions side by side join to one over their pairs. -/
theorem sepL_zip {I : Type} (Φ Ψ : I → sProp 𝕄) : ∀ l : List I, iprop(sepL Φ l ∗ sepL Ψ l) ⊢ sepL (fun i => iprop(Φ i ∗ Ψ i)) l
  | [] => by unfold sepL; iintro -; iempintro
  | i :: l => by
    rw [sepL_cons, sepL_cons, sepL_cons]
    iintro ⟨⟨H1, HL⟩, H2, HR⟩
    isplitl [H1 H2]
    · isplitl [H1] <;> iassumption
    iapply (sepL_zip Φ Ψ l)
    isplitl [HL] <;> iassumption

/-- What the body starts from: what the device starts with, what it owes, and both staging buffers. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- What the body ends with: the semaphores at zero, nothing owed, x as it was, and the result. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- After the body: what it leaves, with the buffers whole, is what the pipeline expects. -/
theorem body_exit (c : Dev nD) : iprop(after m ρ c ∗ idle m ρ c) ⊢ bodyPost m ρ c := by
  unfold bodyPost Φ₁ Dat.owesAt Pipeline.owesWithin
  rw [show (dats m ρ 0 c).owed t₀.succ = 0 from rfl]
  iintro H
  ihave H := (leave m ρ c) $$ H
  unfold owes'
  icases H with ⟨⟨Hb, Hz, ⟨%W, Hw⟩⟩, Hx, Hr, Ho⟩
  isplitl [Hr Hb Hz]
  · isplitl [Hr]; · iexact Hr
    isplitl [Hb] <;> iassumption
  isplitl [Hw]
  · iexists W
    isplitr; · ipureintro; exact fun _ _ => Or.inl trivial
    iexact Hw
  isplitl [Hx]
  · iexists _; isplitr; · (ipureintro; rfl)
    iexact Hx
  iapply (Entails.of_eq (owns_stage c cc0_stg1_0 (outAt m ρ c))); iexact Ho

/-- The body runs from what the pipeline gives it to what the pipeline expects. -/
theorem body_run (c : Dev nD) : bodyPre m ρ c ⊢ run c (on (cc0_body (F := F))) (fun _ => bodyPost m ρ c) := by
  unfold bodyPre Φ₀ start G' Dat.owesAt Pipeline.owesWithin
  rw [show (dats m ρ 0 c).owed t₀.castSucc = O₀ c from rfl]
  iintro ⟨⟨⟨⟨%K, #HR, Hl⟩, ⟨Cb, C1, C3⟩, #Hlev⟩, Hscr⟩, ⟨%W, %hW, Hw⟩, ⟨%d0, %g0, %hg0, Hx⟩, ⟨%d1, %g1, %hg1, Ho⟩⟩
  have hx : g0 = xstg m ρ c := by
    rw [hg0]; unfold Dat.before
    rw [if_pos (show (cfg0.win (0 : Fin 2)).fetch t₀ = true from rfl)]
    rfl
  subst hx
  ihave Hb := (enter m ρ c g1) $$ [Hx Hscr Ho]
  · isplitl [Hx]; · iexact Hx
    isplitl [Hscr] <;> iassumption
  icases Hb with ⟨Hbar, H4, Hxh, Hq, Hidle⟩
  ihave Hl := (readied (F := F) c) $$ [Hl C1 C3]
  · isplitl [Hl]; · iexact Hl
    isplitl [C1] <;> iassumption
  icases Hl with ⟨Tb, Ab, Hrd, Hpd⟩
  iapply (run_body m ρ K c fun _ => bodyPost m ρ c)
  isplitr
  · unfold env
    isplitr; · iexact HR
    rw [levs_eq]; iexact Hlev
  isplitr [Hidle]
  · unfold before bars
    isplitl [Hbar Tb Hw]
    · isplitl [Hbar Tb]
      · iapply (sepL_zip (F := F) (fun d => dutyTok ER (barCell (btgt d c)) 0 d) (fun d => barPay (btgt d c) d) [0, 1, 2, 3, 4])
        isplitl [Tb] <;> iassumption
      iexists W; iexact Hw
    isplitl [Ab]; · iexact Ab
    isplitl [Cb]; · iexact Cb
    isplitl [Hrd]; · iexact Hrd
    isplitl [Hpd]; · iexact Hpd
    isplitl [H4]; · iexact H4
    isplitl [Hxh] <;> iassumption
  iintro Ha
  iapply (body_exit m ρ c)
  isplitl [Ha] <;> iassumption

set_option maxRecDepth 4000 in
/-- The pipeline's obligation for the body on device `c`. -/
theorem body_obligation (c : Dev nD) : BodyObligation (dats (F := F) m ρ 0 c) (defs₀ (F := F)) 𝒱₀ () Set.univ := fun t => by
  rw [only_t₀ t]
  rw [show (∀ Φ : Fin cfg0.W → sProp 𝕄, bigSep Finset.univ Φ = iprop(Φ (0 : Fin 2) ∗ Φ (1 : Fin 2))) from bigSep_W0,
    show (∀ Φ : Fin cfg0.W → sProp 𝕄, bigSep Finset.univ Φ = iprop(Φ (0 : Fin 2) ∗ Φ (1 : Fin 2))) from bigSep_W0]
  simp only [owns_stage]
  have hp : defs₀ (F := F) .tc 0 (t₀, cfg0.slots t₀) = on (cc0_body (F := F)) := rfl
  rw [hp]
  have h1 : bodyPost m ρ c = iprop((dats m ρ 0 c).Φ t₀.succ ∗ (dats m ρ 0 c).owesAt () t₀.succ
    ∗ stg c cc0_stg0_0 ((dats m ρ 0 c).after (0 : Fin 2) t₀) ∗ stg c cc0_stg1_0 ((dats m ρ 0 c).after (1 : Fin 2) t₀)) := rfl
  have h0 : bodyPre m ρ c = iprop((dats m ρ 0 c).Φ t₀.castSucc ∗ (dats m ρ 0 c).owesAt () t₀.castSucc
    ∗ (∃ d, stg c cc0_stg0_0 ((dats m ρ 0 c).before (0 : Fin 2) t₀ d)) ∗ (∃ d, stg c cc0_stg1_0 ((dats m ρ 0 c).before (1 : Fin 2) t₀ d))) := rfl
  have h := body_run m ρ c
  rw [h0, h1] at h
  have e (Q : PUnit → sProp 𝕄) : run c (on (cc0_body (F := F))) Q = wp Idealize.ShloMosaic.frame (wpE (defs₀ (F := F)) 𝒱₀ (c : Thread nD τ) none) Set.univ (on (cc0_body (F := F))) Q := rfl
  rw [e] at h
  refine Eq.mp ?_ h
  congr 1

/-! ## The launch -/

/-- The staging semaphores are none of the transfers'. -/
theorem stage_ne : ∀ (i : Ci) (w : Fin 2) (s : Fin (cfg0.spec w).nbuf), semOf i ≠ (cfg0.spec w).sem s := by decide +kernel
/-- The transfers' semaphores are the call's own, each once. -/
theorem ownSemFacts : Pipeline.OwnSemFacts cfg0.spec osem :=
  ⟨by decide +kernel, fun i j h => semOf_inj (SemLoc.dma.inj h), fun i w s h => stage_ne i w s (SemLoc.dma.inj h)⟩

/-- Each window's array is held whole. -/
theorem share_eq (c : Dev nD) (w : Fin cfg0.W) : (dats m ρ 0 c).share w = fullShare := by unfold Dat.share; split <;> rfl

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- That, with the call's scoped buffers, is what the pipeline asks before the point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What holds after the point gives back the semaphores at zero and the scoped buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  iintro ⟨Hr, Hb, Hz⟩
  isplitl [Hb]; · iexact Hb
  isplitl [Hz]; · iexact Hz
  iexact Hr

/-- The staging semaphores serve no transfer of the kernel, so the pipeline may wait on them whatever is owed. -/
theorem waits (c : Dev nD) : (levAts L lv : sProp 𝕄) ⊢ Pipeline.cellsWaits cfgs (dats m ρ) () 0 c :=
  Pipeline.cellsWaits_intro cfgs (dats m ρ) () 0 c fun w s t => (Entails.of_eq (levs_eq (F := F)).symm).trans
    (mayWait_stage c _ (List.find?_eq_none.mpr fun i _ => by
        simpa using stage_ne i w s) _ (by
      rcases t with ⟨_ | _, ht⟩
      · exact Or.inl rfl
      · exact Or.inr rfl))

/-! ## The run -/

/-- A window's array after the run. -/
def finalA (c : Dev nD) (w : Fin cfg0.W) : Buf (Elt F) ((cfg0.win w).arr.view.loc (c : Thread nD τ)) := (dats m ρ 0 c).arrAt w cfg0.N

/-- At the end, every window's array on every device is the one named by `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, at any float values, every fair execution of the program on the thirty-two devices
    ends, with each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.RingProof
-- ==== Proof.Value.lean ====
/-
What the program's result is, in exact arithmetic: on each device, its column block of the sum of the four blocks of x.
-/
module

public import proofs.«01_k».proof.Proof.Launch
public import proofs.«01_k».proof.Proof.Gen.ReferenceIdeal.Run
public import Idealize.ShloMosaic.Lib.Layout
public import Idealize.ShloMosaic.Lib.ValueLayout
public import Idealize.ShloMosaic.Lib.Pointwise.Reduce
public import Idealize.ShloMosaic.Lib.Pipeline.ValueKit.Geometry
public import Idealize.ShloMosaic.PureOps.Ideal.Laws

@[expose] public section

noncomputable section

namespace Cert.RingProof

open Cert.KernelIdeal Cert.KernelIdeal.Gen

open Idealize.ShloMosaic
open Idealize.ShloMosaic.TcCoe
open Idealize.ShloMosaic.ValueIdx (shapeCast_1ab_ab_apply)
open Idealize.SL Idealize.SL.Sem
open scoped BigOperators

variable {F : FTy → Type} [FloatOps F]
variable (m : (ℓ : Loc nD τ sig) → Buf (Elt F) ℓ) (ρ : Dev nD → PrngReg)

/-- The result's array after the run holds the result's value: it is written back once, whole. -/
theorem finalA_o (c : Dev nD) : finalA m ρ c (1 : Fin 2) = outAt m ρ c :=
  (dats m ρ 0 c).arrAt_eq_of_after_last (1 : Fin 2) t₀ (by decide +kernel) (outAt m ρ c) fun j => rfl

/-- The staged part of x is the device's part of x. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- A coordinate along y is below four. -/
theorem yc_lt (c : Dev nD) : yc c < 4 := Nat.mod_lt _ (by decide)

/-- An element of the block device `c` adds at ring step `k`: row block `u`, chunk `y + 7 - k` modulo 4, column block `qc c`. -/
theorem xs_apply (c : Dev nD) (u : Fin 4) (k : ℕ) (i : Fin 128) (j : Fin 128) :
    xs m ρ c u k (ix2 i j) = m ((c : Thread nD τ).loc main_arg0)
      (ix3 (0 : Fin 1) (⟨128 * u.val + i.val, by omega⟩ : Fin 512)
        (⟨512 * ((yc c + 7 - k) % 4) + 128 * (qc c).val + j.val, by have := (qc c).isLt; omega⟩ : Fin 2048)) := by
  unfold xs
  rw [xstg_eq]
  rw [Memref.read_squeeze_slice xM (xR c u k) (fun _ => rfl) squeezes_S1x128x128_S128x128 (by decide : S1x128x128.ShapeCasts S128x128)]
  refine (shapeCast_1ab_ab_apply _ _ i j).trans ?_
  refine congrArg (m ((c : Thread nD τ).loc main_arg0)) (funext fun a => Fin.ext ?_)
  fin_cases a
  · rfl
  · show 128 * u.val + 1 * i.val = 128 * u.val + i.val; omega
  · show 512 * ((yc c + 7 - k) % 4) + 128 * (qc c).val + 1 * j.val = 512 * ((yc c + 7 - k) % 4) + 128 * (qc c).val + j.val; omega

/-- The previous device's coordinate along y is one less, modulo four. -/
theorem yc_prv : ∀ c, yc (prv c) = (yc c + 3) % 4 := by decide +kernel

/-- Device `c` is given the block of x numbered by its coordinate along y. -/
theorem block_of_x : ∀ c : Dev nD, ((Layout.meshBlock [2, 4, 4] ![[1], [], []] c) (0 : Fin 3)).val = yc c := by decide +kernel
/-- Device `c` holds the columns of the result numbered by its coordinate along y. -/
theorem block_of_out : ∀ c : Dev nD, ((Layout.meshBlock [2, 4, 4] ![[], [1]] c) (1 : Fin 2)).val = yc c := by decide +kernel

section Exact

variable (m : (ℓ : Loc nD τ sig) → Buf (Elt Ideal) ℓ) (ρ : Dev nD → PrngReg)
variable (X : (⟨3, ![4, 512, 2048]⟩ : Shape).Idx → EReal)

/-- Each device's part of x is the block of the whole named by its coordinate along y. -/
def Agrees : Prop := ∀ c : Dev nD, (m ((c : Thread nD τ).loc main_arg0) : (⟨3, ![1, 512, 2048]⟩ : Shape).Idx → EReal)
  = Layout.blockN ⟨3, ![1, 512, 2048]⟩ ⟨3, ![4, 512, 2048]⟩ (Layout.meshBlock [2, 4, 4] ![[1], [], []] c) X

variable {m X}

/-- An element of a device's part of x, in the whole x. -/
theorem part_apply (h : Agrees m X) (c : Dev nD) (r : Fin 512) (n : Fin 2048) :
    m ((c : Thread nD τ).loc main_arg0) (ix3 (0 : Fin 1) r n) = X (ix3 (⟨yc c, yc_lt c⟩ : Fin 4) r n) := by
  rw [h c]
  refine congrArg X (funext fun a => Fin.ext ?_)
  fin_cases a
  · show ((Layout.meshBlock [2, 4, 4] ![[1], [], []] c) (0 : Fin 3)).val * 1 + 0 = yc c
    rw [block_of_x]; omega
  · show 0 * 512 + r.val = r.val; omega
  · show 0 * 2048 + n.val = n.val; omega

/-- After its three additions a device holds, for its chunk of columns, the sum of the four blocks of x. -/
theorem acc_sum (h : Agrees m X) (c : Dev nD) (u : Fin 4) (i j : Fin 128) :
    acc m ρ 3 c u (ix2 i j) = ∑ k : Fin 4, X (ix3 k (⟨128 * u.val + i.val, by omega⟩ : Fin 512)
      (⟨512 * yc c + 128 * (qc c).val + j.val, by have := (qc c).isLt; have := yc_lt c; omega⟩ : Fin 2048)) := by
  have term (k : ℕ) (c' : Dev nD) (y : Fin 4) (hy : yc c' = y.val) (hq : qc c' = qc c) (hk : (yc c' + 7 - k) % 4 = yc c) :
      xs m ρ c' u k (ix2 i j) = X (ix3 y (⟨128 * u.val + i.val, by omega⟩ : Fin 512)
        (⟨512 * yc c + 128 * (qc c).val + j.val, by have := (qc c).isLt; have := yc_lt c; omega⟩ : Fin 2048)) := by
    rw [xs_apply, part_apply h]
    congr 2
    · exact Fin.ext hy
    · exact Fin.ext (by show 512 * ((yc c' + 7 - k) % 4) + 128 * (qc c').val + j.val = _; rw [hk, hq])
  show xs m ρ (prv (prv (prv c))) u 0 (ix2 i j) + xs m ρ (prv (prv c)) u 1 (ix2 i j) + xs m ρ (prv c) u 2 (ix2 i j)
    + xs m ρ c u 3 (ix2 i j) = _
  have hy := yc_lt c
  rw [term 0 (prv (prv (prv c))) ⟨(yc c + 1) % 4, Nat.mod_lt _ (by decide)⟩ (by simp only [yc_prv]; omega) (by simp only [qc_prv]) (by simp only [yc_prv]; omega),
    term 1 (prv (prv c)) ⟨(yc c + 2) % 4, Nat.mod_lt _ (by decide)⟩ (by simp only [yc_prv]; omega) (by simp only [qc_prv]) (by simp only [yc_prv]; omega),
    term 2 (prv c) ⟨(yc c + 3) % 4, Nat.mod_lt _ (by decide)⟩ (by simp only [yc_prv]) (by simp only [qc_prv]) (by simp only [yc_prv]; omega),
    term 3 c ⟨yc c, hy⟩ rfl rfl (by omega), Fin.sum_univ_four]
  generalize (⟨512 * yc c + 128 * (qc c).val + j.val, _⟩ : Fin 2048) = n
  generalize (⟨128 * u.val + i.val, _⟩ : Fin 512) = r
  have around (f : Fin 4 → EReal) (y : ℕ) (h : y < 4) :
      f ⟨(y + 1) % 4, Nat.mod_lt _ (by decide)⟩ + f ⟨(y + 2) % 4, Nat.mod_lt _ (by decide)⟩ + f ⟨(y + 3) % 4, Nat.mod_lt _ (by decide)⟩ + f ⟨y, h⟩
        = f 0 + f 1 + f 2 + f 3 := by
    interval_cases y
    · show f 1 + f 2 + f 3 + f 0 = _; abel
    · show f 2 + f 3 + f 0 + f 1 = _; abel
    · show f 3 + f 0 + f 1 + f 2 = _; abel
    · rfl
  exact around (fun k => X (ix3 k r n)) (yc c) hy

/-- The result on a device, as a table of extended reals. -/
def res (m : (ℓ : Loc nD τ sig) → Buf (Elt Ideal) ℓ) (c : Dev nD) : (⟨2, ![512, 512]⟩ : Shape).Idx → EReal := outAt m ρ c

/-- An element of it lies in the block its row and column name. -/
theorem res_apply (c : Dev nD) (i j : Fin 512) : res ρ m c (ix2 i j)
    = acc m ρ 3 (own ⟨j.val / 128, by omega⟩ c) ⟨i.val / 128, by omega⟩ (ix2 ⟨i.val % 128, by omega⟩ ⟨j.val % 128, by omega⟩) :=
  congrArg (acc m ρ 3 (own ⟨j.val / 128, _⟩ c) ⟨i.val / 128, _⟩) (funext fun a => by fin_cases a <;> rfl)

/-- The whole result on one device: the reference's sum, read at the device's column block. -/
theorem outAt_sum (h : Agrees m X) (c : Dev nD) (i j : Fin 512) :
    res ρ m c (ix2 i j) = ∑ k : Fin 4, X (ix3 k i (⟨512 * yc c + j.val, by have := yc_lt c; omega⟩ : Fin 2048)) := by
  have hi := i.isLt
  have hj := j.isLt
  rw [res_apply, acc_sum ρ h]
  refine Finset.sum_congr rfl fun k _ => ?_
  congr 2
  · exact Fin.ext (by show 128 * (i.val / 128) + i.val % 128 = i.val; omega)
  · exact Fin.ext (by
      show 512 * yc (own _ c) + 128 * (qc (own _ c)).val + j.val % 128 = 512 * yc c + j.val
      rw [yc_own, qc_own]
      show 512 * yc c + 128 * (j.val / 128) + j.val % 128 = _
      omega)

/-- The reference's result. -/
def refSum (X : (⟨3, ![4, 512, 2048]⟩ : Shape).Idx → EReal) : (⟨2, ![512, 2048]⟩ : Shape).Idx → EReal :=
  Host.reduceAdd (F := Ideal) (φ := .f32) X (constant (F := Ideal) Cert.ReferenceIdeal.S_ .f32 0x00000000#32)
    Cert.ReferenceIdeal.Gen.reducesTo_S4x512x2048_S512x2048_d0 Cert.ReferenceIdeal.Gen.h_S_

/-- Its elements: the sums of the four blocks' elements. -/
theorem refSum_apply (X : (⟨3, ![4, 512, 2048]⟩ : Shape).Idx → EReal) (j : (⟨2, ![512, 2048]⟩ : Shape).Idx) :
    refSum X j = ∑ k : Fin 4, X (ix3 k (j 0) (j 1)) := by
  refine (Ideal.hostReduceAdd_r3_a0 Cert.ReferenceIdeal.Gen.reducesTo_S4x512x2048_S512x2048_d0 X _ j).trans ?_
  show Ideal.ofBits .f32 0x00000000#32 + _ = _
  rw [Ideal.ofBits_zero_f32, zero_add]
  rfl

/-- Each device's result is its block of the reference's. -/
theorem outAt_eq (h : Agrees m X) (c : Dev nD) : res ρ m c
    = Layout.blockN ⟨2, ![512, 512]⟩ ⟨2, ![512, 2048]⟩ (Layout.meshBlock [2, 4, 4] ![[], [1]] c) (refSum X) := by
  funext j
  rw [Layout.blockN_apply, refSum_apply]
  refine (congrArg (res ρ m c) (eq_ix2 j)).trans ((outAt_sum ρ h c (j 0) (j 1)).trans ?_)
  refine Finset.sum_congr rfl fun k _ => ?_
  congr 2
  · exact Fin.ext (by show (j 0).val = 0 * 512 + (j 0).val; omega)
  · exact Fin.ext (by
      show 512 * yc c + (j 1).val = ((Layout.meshBlock [2, 4, 4] ![[], [1]] c) (1 : Fin 2)).val * 512 + (j 1).val
      rw [block_of_out]; omega)

end Exact

end Cert.RingProof
-- ==== Proof.lean ====
/-
The five claims about the kernel. Its run (Proof/Launch.lean) is proved once, at any float values: it gives both the
kernel's frames, and with the value of its result in exact arithmetic (Proof/Value.lean) the equality with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- At any float values and from any memory, the kernel ends with its argument unchanged and every semaphore at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cert.RingProof.finalA_x m ρ c), h.2⟩)
    (Cert.RingProof.run_main m ρ)

/-- The two prints of the kernel are one text: their kernel functions agree, -/
theorem bodies_same : Cert.Kernel.defs₀ (F := Bits) = Cert.KernelIdeal.defs₀ :=
  congrArg Defs.onTc (funext fun l => funext fun a => by
    match l with
    | ⟨0, _⟩ => rfl)

/-- and so do the tables they are called from. -/
theorem tables_same : Cert.Kernel.defs (F := Bits) = Cert.KernelIdeal.defs := congrArg (Pipeline.defs Cert.Kernel.pcfgs) bodies_same

/-- So at its bit patterns, -/
theorem frame_kernel : Cert.quiescent_Kernel := fun m ρ _ => by
  rw [tables_same]
  exact frame (F := Bits) m ρ

/-- and in exact arithmetic. -/
theorem frame_kernelIdeal : Cert.quiescent_KernelIdeal := fun m ρ _ => frame (F := Ideal) m ρ

/-- The reference ends, with its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories where each device holds its block of the reference's argument, each device's result is, in exact
    arithmetic, its block of the reference's result. -/
theorem sum_of_blocks : Cert.algebraic_KernelIdeal_ReferenceIdeal := fun m ρ m' ρ' _ agree =>
  ⟨Cert.RingProof.refSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.RingProof.finalA_o m ρ c)).trans (Cert.RingProof.outAt_eq ρ agree c),
        (h.1 c (0 : Fin 2)).trans (Cert.RingProof.finalA_x m ρ c)⟩)
      (Cert.RingProof.run_main (F := Ideal) m ρ),
    (θ_run Cert.ReferenceIdeal.defs _ _).mono (fun _ h => h 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_kernelIdeal, frame_reference, trivial, sum_of_blocks⟩

end Cert.Proof

end
